-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_tables_ok [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_LossIdeal (m : (ℓ : Loc Cert.LossIdeal.nD Cert.LossIdeal.τ Cert.LossIdeal.sig) → Buf (Elt Ideal) ℓ) : Prop :=
  True

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tables_ok [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def preserves_Kernel_KernelIdeal : Prop :=
  IdealRules.named_const.Statement Cert.KernelIdeal.κ "slope" .bf16 0x3C24#16 ((1 / 100 : ℝ) : EReal)
  ∧ IdealRules.named_const.Statement Cert.KernelIdeal.κ "slope" .f32 0x3C23D70A#32 ((1 / 100 : ℝ) : EReal)

def algebraic_KernelIdeal_ReferenceIdeal_pre_tables_ok [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Router_RouterIdeal : Prop :=
  True

def algebraic_RouterIdeal_LossIdeal [hRouterIdeal : Cert.RouterIdeal.Facts] [hLossIdeal : Cert.LossIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.LossIdeal.nD Cert.LossIdeal.τ Cert.LossIdeal.sig) → Buf (Elt Ideal) ℓ) (g' : Dev Cert.LossIdeal.nD → PrngReg), Pre_RouterIdeal m →
    (∀ c : Dev Cert.RouterIdeal.nD,
      m' ((c.tc : Thread Cert.LossIdeal.nD Cert.LossIdeal.τ).loc Cert.LossIdeal.main_arg0) = m ((c.tc : Thread Cert.RouterIdeal.nD Cert.RouterIdeal.τ).loc Cert.RouterIdeal.main_arg0)
      ∧ m' ((c.tc : Thread Cert.LossIdeal.nD Cert.LossIdeal.τ).loc Cert.LossIdeal.main_arg1) = m ((c.tc : Thread Cert.RouterIdeal.nD Cert.RouterIdeal.τ).loc Cert.RouterIdeal.main_arg1)
      ∧ m' ((c.tc : Thread Cert.LossIdeal.nD Cert.LossIdeal.τ).loc Cert.LossIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v2_6)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_6) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.LossIdeal.defs (F := Ideal)) (onTc (τ := Cert.LossIdeal.τ) (Cert.LossIdeal.main (F := Ideal))) ⟨m', fun _ => 0, g'⟩ (fun r => ∀ c : Dev Cert.LossIdeal.nD,
          r.2.mem ((c.tc : Thread Cert.LossIdeal.nD Cert.LossIdeal.τ).loc Cert.LossIdeal.main_v27) = v0 c
          ∧ r.2.mem ((c.tc : Thread Cert.LossIdeal.nD Cert.LossIdeal.τ).loc Cert.LossIdeal.main_arg0) = m' ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m' ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m' ((c.tc : Thread Cert.LossIdeal.nD Cert.LossIdeal.τ).loc Cert.LossIdeal.main_arg2))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hLossIdeal : Cert.LossIdeal.Facts) (hPre_rows_in_range : Cert.Pre_rows_in_range.Facts) (hPre_tables_ok : Cert.Pre_tables_ok.Facts),
    quiescent_Kernel (hKernel := hKernel) (hPre_rows_in_range := hPre_rows_in_range)
    ∧ quiescent_KernelIdeal (hKernelIdeal := hKernelIdeal) (hPre_rows_in_range := hPre_rows_in_range)
    ∧ quiescent_KernelIdeal_pre_tables_ok (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ quiescent_Router (hRouter := hRouter)
    ∧ quiescent_RouterIdeal (hRouterIdeal := hRouterIdeal)
    ∧ quiescent_LossIdeal (hLossIdeal := hLossIdeal)
    ∧ preserves_Kernel_KernelIdeal
    ∧ algebraic_KernelIdeal_ReferenceIdeal_pre_tables_ok (hKernelIdeal := hKernelIdeal) (hReferenceIdeal := hReferenceIdeal) (hPre_tables_ok := hPre_tables_ok)
    ∧ preserves_Router_RouterIdeal
    ∧ algebraic_RouterIdeal_LossIdeal (hRouterIdeal := hRouterIdeal) (hLossIdeal := hLossIdeal)
-- ==== Pre_rows_in_range.lean ====
abbrev S32768x1024 : Shape := ⟨2, ![32768, 1024]⟩
abbrev S40 : Shape := ⟨1, ![40]⟩
abbrev S4096 : Shape := ⟨1, ![4096]⟩
abbrev S4096x2 : Shape := ⟨2, ![4096, 2]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S40 : S_.BroadcastsInDim S40 (![] : Fin 0 → Fin S40.rank)
  reducesTo_S40_S_d0 : S40.ReducesTo [0] S_

variable [Facts]

def fn_part1 {F : FTy → Type} [FloatOps F] (main_arg1 : IVec S40 32) (main_arg3 : IVec S40 32) (main_v12 : IVec S_ 1) (main_v14 : IVec S40 1) (main_v15 : IVec S40 32) : IVec S_ 1 :=
  let main_v16 : IVec S40 1 := cmpi .slt main_arg1 main_v15
  let main_v17 : IVec S40 1 := andi main_v14 main_v16
  let main_c_7 : IVec S_ 1 := constantI S_ 1 1#1
  let main_v18 : IVec S_ 1 := (fun x v => Host.reduce IntOp.andi x v reducesTo_S40_S_d0 h_S_) main_v17 main_c_7
  let main_v19 : IVec S_ 1 := andi main_v12 main_v18
  let main_c_8 : IVec S_ 32 := constantI S_ 32 0#32
  let main_v20 : IVec S40 32 := broadcastInDim S40 ![] bcast_S_S40 main_c_8
  let main_v21 : IVec S40 1 := cmpi .sge main_arg3 main_v20
  let main_c_9 : IVec S_ 32 := constantI S_ 32 128#32
  let main_v22 : IVec S40 32 := broadcastInDim S40 ![] bcast_S_S40 main_c_9
  let main_v23 : IVec S40 1 := cmpi .slt main_arg3 main_v22
  let main_v24 : IVec S40 1 := andi main_v21 main_v23
  let main_c_10 : IVec S_ 1 := constantI S_ 1 1#1
  let main_v25 : IVec S_ 1 := (fun x v => Host.reduce IntOp.andi x v reducesTo_S40_S_d0 h_S_) main_v24 main_c_10
  let main_v26 : IVec S_ 1 := andi main_v19 main_v25
  main_v26

def fn {F : FTy → Type} [FloatOps F] (main_arg0 : FVec F S32768x1024 .f32) (main_arg1 : IVec S40 32) (main_arg2 : IVec S40 32) (main_arg3 : IVec S40 32) (main_arg4 : IVec S4096 32) (main_arg5 : IVec S4096 32) (main_arg6 : FVec F S4096x2 .f32) (main_arg7 : FVec F S8x1024x2048 .f32) (main_arg8 : FVec F S8x2048 .f32) (main_arg9 : FVec F S8x2048x1024 .f32) (main_arg10 : FVec F S8x1024 .f32) : IVec S_ 1 :=
  let main_c : IVec S_ 32 := constantI S_ 32 0#32
  let main_v0 : IVec S4096 32 := broadcastInDim S4096 ![] bcast_S_S4096 main_c
  let main_v1 : IVec S4096 1 := cmpi .sge main_arg4 main_v0
  let main_c_0 : IVec S_ 32 := constantI S_ 32 32768#32
  let main_v2 : IVec S4096 32 := broadcastInDim S4096 ![] bcast_S_S4096 main_c_0
  let main_v3 : IVec S4096 1 := cmpi .slt main_arg4 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg5 main_v6
  let main_c_3 : IVec S_ 32 := constantI S_ 32 32768#32
  let main_v8 : IVec S4096 32 := broadcastInDim S4096 ![] bcast_S_S4096 main_c_3
  let main_v9 : IVec S4096 1 := cmpi .slt main_arg5 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S40 32 := broadcastInDim S40 ![] bcast_S_S40 main_c_5
  let main_v14 : IVec S40 1 := cmpi .sge main_arg1 main_v13
  let main_c_6 : IVec S_ 32 := constantI S_ 32 8#32
  let main_v15 : IVec S40 32 := broadcastInDim S40 ![] bcast_S_S40 main_c_6
  fn_part1 (F := F) main_arg1 main_arg3 main_v12 main_v14 main_v15
-- ==== Pre_tables_ok.lean ====
abbrev S32768x1024 : Shape := ⟨2, ![32768, 1024]⟩
abbrev S40 : Shape := ⟨1, ![40]⟩
abbrev S4096 : Shape := ⟨1, ![4096]⟩
abbrev S4096x2 : Shape := ⟨2, ![4096, 2]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S_ : Shape := ⟨0, ![]⟩
abbrev S1 : Shape := ⟨1, ![1]⟩
abbrev S39 : Shape := ⟨1, ![39]⟩
abbrev S4096x1 : Shape := ⟨2, ![4096, 1]⟩
abbrev S1x40 : Shape := ⟨2, ![1, 40]⟩
abbrev S4096x40 : Shape := ⟨2, ![4096, 40]⟩

class Facts : Prop where
  bcast_S_S4096 : S_.BroadcastsInDim S4096 (![] : Fin 0 → Fin S4096.rank)
  reducesTo_S4096_S_d0 : S4096.ReducesTo [0] S_
  h_S_ : 0 < S_.numel
  bcast_S_S40 : S_.BroadcastsInDim S40 (![] : Fin 0 → Fin S40.rank)
  reducesTo_S40_S_d0 : S40.ReducesTo [0] S_
  slices_S40_S1_0 : S40.Slices ![0] S1
  bcast_S_S1 : S_.BroadcastsInDim S1 (![] : Fin 0 → Fin S1.rank)
  reducesTo_S1_S_d0 : S1.ReducesTo [0] S_
  slices_S40_S39_1 : S40.Slices ![1] S39
  bcast_S_S39 : S_.BroadcastsInDim S39 (![] : Fin 0 → Fin S39.rank)
  slices_S40_S39_0 : S40.Slices ![0] S39
  reducesTo_S39_S_d0 : S39.ReducesTo [0] S_
  bcast_S4096_S4096x1_0 : S4096.BroadcastsInDim S4096x1 (![0] : Fin 1 → Fin S4096x1.rank)
  bcast_S40_S1x40_1 : S40.BroadcastsInDim S1x40 (![1] : Fin 1 → Fin S1x40.rank)
  bcast_S1x40_S4096x40_0_1 : S1x40.BroadcastsInDim S4096x40 (![0, 1] : Fin 2 → Fin S4096x40.rank)
  bcast_S4096x1_S4096x40_0_1 : S4096x1.BroadcastsInDim S4096x40 (![0, 1] : Fin 2 → Fin S4096x40.rank)
  bcast_S_S1x40 : S_.BroadcastsInDim S1x40 (![] : Fin 0 → Fin S1x40.rank)
  reducesTo_S4096x40_S4096_d1 : S4096x40.ReducesTo [1] S4096

variable [Facts]

def fn_part4 {F : FTy → Type} [FloatOps F] (main_v67 : IVec S_ 1) (main_v68 : IVec S4096x1 32) (main_v70 : IVec S40 32) : IVec S_ 1 :=
  let main_v71 : IVec S1x40 32 := broadcastInDim S1x40 ![1] bcast_S40_S1x40_1 main_v70
  let main_v72 : IVec S4096x40 32 := broadcastInDim S4096x40 ![0, 1] bcast_S1x40_S4096x40_0_1 main_v71
  let main_v73 : IVec S4096x40 32 := broadcastInDim S4096x40 ![0, 1] bcast_S4096x1_S4096x40_0_1 main_v68
  let main_v74 : IVec S4096x40 1 := cmpi .sle main_v72 main_v73
  let main_c_24 : IVec S_ 32 := constantI S_ 32 256#32
  let main_v75 : IVec S1x40 32 := broadcastInDim S1x40 ![] bcast_S_S1x40 main_c_24
  let main_v76 : IVec S1x40 32 := addi main_v71 main_v75
  let main_v77 : IVec S4096x40 32 := broadcastInDim S4096x40 ![0, 1] bcast_S4096x1_S4096x40_0_1 main_v68
  let main_v78 : IVec S4096x40 32 := broadcastInDim S4096x40 ![0, 1] bcast_S1x40_S4096x40_0_1 main_v76
  let main_v79 : IVec S4096x40 1 := cmpi .slt main_v77 main_v78
  let main_v80 : IVec S4096x40 1 := andi main_v74 main_v79
  let main_c_25 : IVec S_ 1 := constantI S_ 1 0#1
  let main_v81 : IVec S4096 1 := (fun x v => Host.reduce IntOp.ori x v reducesTo_S4096x40_S4096_d1 h_S_) main_v80 main_c_25
  let main_c_26 : IVec S_ 1 := constantI S_ 1 1#1
  let main_v82 : IVec S_ 1 := (fun x v => Host.reduce IntOp.andi x v reducesTo_S4096_S_d0 h_S_) main_v81 main_c_26
  let main_v83 : IVec S_ 1 := andi main_v67 main_v82
  main_v83

def fn_part3 {F : FTy → Type} [FloatOps F] (main_arg3 : IVec S40 32) (main_arg4 : IVec S4096 32) (main_arg5 : IVec S4096 32) (main_v51 : IVec S_ 1) : IVec S_ 1 :=
  let main_v52 : IVec S4096x1 32 := broadcastInDim S4096x1 ![0] bcast_S4096_S4096x1_0 main_arg4
  let main_c_19 : IVec S_ 32 := constantI S_ 32 256#32
  let main_v53 : IVec S40 32 := broadcastInDim S40 ![] bcast_S_S40 main_c_19
  let main_v54 : IVec S40 32 := muli main_arg3 main_v53
  let main_v55 : IVec S1x40 32 := broadcastInDim S1x40 ![1] bcast_S40_S1x40_1 main_v54
  let main_v56 : IVec S4096x40 32 := broadcastInDim S4096x40 ![0, 1] bcast_S1x40_S4096x40_0_1 main_v55
  let main_v57 : IVec S4096x40 32 := broadcastInDim S4096x40 ![0, 1] bcast_S4096x1_S4096x40_0_1 main_v52
  let main_v58 : IVec S4096x40 1 := cmpi .sle main_v56 main_v57
  let main_c_20 : IVec S_ 32 := constantI S_ 32 256#32
  let main_v59 : IVec S1x40 32 := broadcastInDim S1x40 ![] bcast_S_S1x40 main_c_20
  let main_v60 : IVec S1x40 32 := addi main_v55 main_v59
  let main_v61 : IVec S4096x40 32 := broadcastInDim S4096x40 ![0, 1] bcast_S4096x1_S4096x40_0_1 main_v52
  let main_v62 : IVec S4096x40 32 := broadcastInDim S4096x40 ![0, 1] bcast_S1x40_S4096x40_0_1 main_v60
  let main_v63 : IVec S4096x40 1 := cmpi .slt main_v61 main_v62
  let main_v64 : IVec S4096x40 1 := andi main_v58 main_v63
  let main_c_21 : IVec S_ 1 := constantI S_ 1 0#1
  let main_v65 : IVec S4096 1 := (fun x v => Host.reduce IntOp.ori x v reducesTo_S4096x40_S4096_d1 h_S_) main_v64 main_c_21
  let main_c_22 : IVec S_ 1 := constantI S_ 1 1#1
  let main_v66 : IVec S_ 1 := (fun x v => Host.reduce IntOp.andi x v reducesTo_S4096_S_d0 h_S_) main_v65 main_c_22
  let main_v67 : IVec S_ 1 := andi main_v51 main_v66
  let main_v68 : IVec S4096x1 32 := broadcastInDim S4096x1 ![0] bcast_S4096_S4096x1_0 main_arg5
  let main_c_23 : IVec S_ 32 := constantI S_ 32 256#32
  let main_v69 : IVec S40 32 := broadcastInDim S40 ![] bcast_S_S40 main_c_23
  let main_v70 : IVec S40 32 := muli main_arg3 main_v69
  fn_part4 (F := F) main_v67 main_v68 main_v70

def fn_part2 {F : FTy → Type} [FloatOps F] (main_arg2 : IVec S40 32) (main_arg3 : IVec S40 32) (main_arg4 : IVec S4096 32) (main_arg5 : IVec S4096 32) (main_v26 : IVec S_ 1) (main_v29 : IVec S40 1) (main_v31 : IVec S40 32) (main_v32 : IVec S40 32) : IVec S_ 1 :=
  let main_v33 : IVec S40 32 := addi main_v31 main_v32
  let main_v34 : IVec S40 1 := cmpi .slt main_arg3 main_v33
  let main_v35 : IVec S40 1 := andi main_v29 main_v34
  let main_c_14 : IVec S_ 1 := constantI S_ 1 1#1
  let main_v36 : IVec S_ 1 := (fun x v => Host.reduce IntOp.andi x v reducesTo_S40_S_d0 h_S_) main_v35 main_c_14
  let main_v37 : IVec S_ 1 := andi main_v26 main_v36
  let main_v38 : IVec S1 32 := (extractStridedSlice S1 ![0] · slices_S40_S1_0) main_arg2
  let main_c_15 : IVec S_ 32 := constantI S_ 32 1#32
  let main_v39 : IVec S1 32 := broadcastInDim S1 ![] bcast_S_S1 main_c_15
  let main_v40 : IVec S1 1 := cmpi .eq main_v38 main_v39
  let main_c_16 : IVec S_ 1 := constantI S_ 1 1#1
  let main_v41 : IVec S_ 1 := (fun x v => Host.reduce IntOp.andi x v reducesTo_S1_S_d0 h_S_) main_v40 main_c_16
  let main_v42 : IVec S39 32 := (extractStridedSlice S39 ![1] · slices_S40_S39_1) main_arg2
  let main_c_17 : IVec S_ 32 := constantI S_ 32 1#32
  let main_v43 : IVec S39 32 := broadcastInDim S39 ![] bcast_S_S39 main_c_17
  let main_v44 : IVec S39 1 := cmpi .eq main_v42 main_v43
  let main_v45 : IVec S39 32 := (extractStridedSlice S39 ![1] · slices_S40_S39_1) main_arg3
  let main_v46 : IVec S39 32 := (extractStridedSlice S39 ![0] · slices_S40_S39_0) main_arg3
  let main_v47 : IVec S39 1 := cmpi .eq main_v45 main_v46
  let main_v48 : IVec S39 1 := ori main_v44 main_v47
  let main_c_18 : IVec S_ 1 := constantI S_ 1 1#1
  let main_v49 : IVec S_ 1 := (fun x v => Host.reduce IntOp.andi x v reducesTo_S39_S_d0 h_S_) main_v48 main_c_18
  let main_v50 : IVec S_ 1 := andi main_v41 main_v49
  let main_v51 : IVec S_ 1 := andi main_v37 main_v50
  fn_part3 (F := F) main_arg3 main_arg4 main_arg5 main_v51

def fn_part1 {F : FTy → Type} [FloatOps F] (main_arg1 : IVec S40 32) (main_arg2 : IVec S40 32) (main_arg3 : IVec S40 32) (main_arg4 : IVec S4096 32) (main_arg5 : IVec S4096 32) (main_v12 : IVec S_ 1) (main_v14 : IVec S40 1) (main_v15 : IVec S40 32) : IVec S_ 1 :=
  let main_v16 : IVec S40 1 := cmpi .slt main_arg1 main_v15
  let main_v17 : IVec S40 1 := andi main_v14 main_v16
  let main_c_7 : IVec S_ 1 := constantI S_ 1 1#1
  let main_v18 : IVec S_ 1 := (fun x v => Host.reduce IntOp.andi x v reducesTo_S40_S_d0 h_S_) main_v17 main_c_7
  let main_v19 : IVec S_ 1 := andi main_v12 main_v18
  let main_c_8 : IVec S_ 32 := constantI S_ 32 0#32
  let main_v20 : IVec S40 32 := broadcastInDim S40 ![] bcast_S_S40 main_c_8
  let main_v21 : IVec S40 1 := cmpi .sge main_arg3 main_v20
  let main_c_9 : IVec S_ 32 := constantI S_ 32 128#32
  let main_v22 : IVec S40 32 := broadcastInDim S40 ![] bcast_S_S40 main_c_9
  let main_v23 : IVec S40 1 := cmpi .slt main_arg3 main_v22
  let main_v24 : IVec S40 1 := andi main_v21 main_v23
  let main_c_10 : IVec S_ 1 := constantI S_ 1 1#1
  let main_v25 : IVec S_ 1 := (fun x v => Host.reduce IntOp.andi x v reducesTo_S40_S_d0 h_S_) main_v24 main_c_10
  let main_v26 : IVec S_ 1 := andi main_v19 main_v25
  let main_c_11 : IVec S_ 32 := constantI S_ 32 16#32
  let main_v27 : IVec S40 32 := broadcastInDim S40 ![] bcast_S_S40 main_c_11
  let main_v28 : IVec S40 32 := muli main_arg1 main_v27
  let main_v29 : IVec S40 1 := cmpi .sle main_v28 main_arg3
  let main_c_12 : IVec S_ 32 := constantI S_ 32 16#32
  let main_v30 : IVec S40 32 := broadcastInDim S40 ![] bcast_S_S40 main_c_12
  let main_v31 : IVec S40 32 := muli main_arg1 main_v30
  let main_c_13 : IVec S_ 32 := constantI S_ 32 16#32
  let main_v32 : IVec S40 32 := broadcastInDim S40 ![] bcast_S_S40 main_c_13
  fn_part2 (F := F) main_arg2 main_arg3 main_arg4 main_arg5 main_v26 main_v29 main_v31 main_v32

def fn {F : FTy → Type} [FloatOps F] (main_arg0 : FVec F S32768x1024 .f32) (main_arg1 : IVec S40 32) (main_arg2 : IVec S40 32) (main_arg3 : IVec S40 32) (main_arg4 : IVec S4096 32) (main_arg5 : IVec S4096 32) (main_arg6 : FVec F S4096x2 .f32) (main_arg7 : FVec F S8x1024x2048 .f32) (main_arg8 : FVec F S8x2048 .f32) (main_arg9 : FVec F S8x2048x1024 .f32) (main_arg10 : FVec F S8x1024 .f32) : IVec S_ 1 :=
  let main_c : IVec S_ 32 := constantI S_ 32 0#32
  let main_v0 : IVec S4096 32 := broadcastInDim S4096 ![] bcast_S_S4096 main_c
  let main_v1 : IVec S4096 1 := cmpi .sge main_arg4 main_v0
  let main_c_0 : IVec S_ 32 := constantI S_ 32 32768#32
  let main_v2 : IVec S4096 32 := broadcastInDim S4096 ![] bcast_S_S4096 main_c_0
  let main_v3 : IVec S4096 1 := cmpi .slt main_arg4 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg5 main_v6
  let main_c_3 : IVec S_ 32 := constantI S_ 32 32768#32
  let main_v8 : IVec S4096 32 := broadcastInDim S4096 ![] bcast_S_S4096 main_c_3
  let main_v9 : IVec S4096 1 := cmpi .slt main_arg5 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S40 32 := broadcastInDim S40 ![] bcast_S_S40 main_c_5
  let main_v14 : IVec S40 1 := cmpi .sge main_arg1 main_v13
  let main_c_6 : IVec S_ 32 := constantI S_ 32 8#32
  let main_v15 : IVec S40 32 := broadcastInDim S40 ![] bcast_S_S40 main_c_6
  fn_part1 (F := F) main_arg1 main_arg2 main_arg3 main_arg4 main_arg5 main_v12 main_v14 main_v15
-- ==== Kernel.lean ====
abbrev S32768x1024 : Shape := ⟨2, ![32768, 1024]⟩
abbrev S40 : Shape := ⟨1, ![40]⟩
abbrev S4096 : Shape := ⟨1, ![4096]⟩
abbrev S4096x2 : Shape := ⟨2, ![4096, 2]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S8x1x2048 : Shape := ⟨3, ![8, 1, 2048]⟩
abbrev S8x1x1024 : Shape := ⟨3, ![8, 1, 1024]⟩
abbrev S256x1024 : Shape := ⟨2, ![256, 1024]⟩
abbrev S1 : Shape := ⟨1, ![1]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S1024x2048 : Shape := ⟨2, ![1024, 2048]⟩
abbrev S2048x1024 : Shape := ⟨2, ![2048, 1024]⟩
abbrev S256x2048 : Shape := ⟨2, ![256, 2048]⟩
abbrev S1x2048 : Shape := ⟨2, ![1, 2048]⟩
abbrev S1x1024 : Shape := ⟨2, ![1, 1024]⟩
abbrev S8192x1024 : Shape := ⟨2, ![8192, 1024]⟩
abbrev S64x1024 : Shape := ⟨2, ![64, 1024]⟩
abbrev S64 : Shape := ⟨1, ![64]⟩
abbrev S_ : Shape := ⟨0, ![]⟩
abbrev S64x128 : Shape := ⟨2, ![64, 128]⟩
abbrev S32768x128 : Shape := ⟨2, ![32768, 128]⟩
abbrev S4096x1024 : Shape := ⟨2, ![4096, 1024]⟩
abbrev S256x2 : Shape := ⟨2, ![256, 2]⟩
abbrev S256x1 : Shape := ⟨2, ![256, 1]⟩

abbrev nBuf : Table → Nat
  | .hbm => 13
  | .local .tc .vmem => 22
  | .local .tc .smem => 3
  | .local .scVector .vmem => 2
  | _ => 0

abbrev bufTy : (tb : Table) → Fin (nBuf tb) → BufTy
  | .hbm, ⟨0, _⟩ => ⟨S32768x1024, .f32⟩
  | .hbm, ⟨1, _⟩ => ⟨S4096, .i32⟩
  | .hbm, ⟨2, _⟩ => ⟨S4096, .i32⟩
  | .hbm, ⟨3, _⟩ => ⟨S4096x2, .f32⟩
  | .hbm, ⟨4, _⟩ => ⟨S8x1024x2048, .f32⟩
  | .hbm, ⟨5, _⟩ => ⟨S8x2048, .f32⟩
  | .hbm, ⟨6, _⟩ => ⟨S8x2048x1024, .f32⟩
  | .hbm, ⟨7, _⟩ => ⟨S8x1024, .f32⟩
  | .hbm, ⟨8, _⟩ => ⟨S8x1x2048, .f32⟩
  | .hbm, ⟨9, _⟩ => ⟨S8x1x1024, .f32⟩
  | .hbm, ⟨10, _⟩ => ⟨S32768x1024, .f32⟩
  | .hbm, ⟨11, _⟩ => ⟨S8192x1024, .f32⟩
  | .hbm, ⟨12, _⟩ => ⟨S4096x1024, .f32⟩
  | .local .tc .vmem, ⟨0, _⟩ => ⟨S256x1024, .f32⟩
  | .local .tc .vmem, ⟨1, _⟩ => ⟨S256x1024, .f32⟩
  | .local .tc .vmem, ⟨2, _⟩ => ⟨S1x1024x2048, .f32⟩
  | .local .tc .vmem, ⟨3, _⟩ => ⟨S1x1024x2048, .f32⟩
  | .local .tc .vmem, ⟨4, _⟩ => ⟨S1x1x2048, .f32⟩
  | .local .tc .vmem, ⟨5, _⟩ => ⟨S1x1x2048, .f32⟩
  | .local .tc .vmem, ⟨6, _⟩ => ⟨S1x2048x1024, .f32⟩
  | .local .tc .vmem, ⟨7, _⟩ => ⟨S1x2048x1024, .f32⟩
  | .local .tc .vmem, ⟨8, _⟩ => ⟨S1x1x1024, .f32⟩
  | .local .tc .vmem, ⟨9, _⟩ => ⟨S1x1x1024, .f32⟩
  | .local .tc .vmem, ⟨10, _⟩ => ⟨S256x1024, .f32⟩
  | .local .tc .vmem, ⟨11, _⟩ => ⟨S256x1024, .f32⟩
  | .local .tc .vmem, ⟨12, _⟩ => ⟨S1024x2048, .bf16⟩
  | .local .tc .vmem, ⟨13, _⟩ => ⟨S2048x1024, .bf16⟩
  | .local .tc .vmem, ⟨14, _⟩ => ⟨S256x1024, .f32⟩
  | .local .tc .vmem, ⟨15, _⟩ => ⟨S256x1024, .f32⟩
  | .local .tc .vmem, ⟨16, _⟩ => ⟨S256x1024, .f32⟩
  | .local .tc .vmem, ⟨17, _⟩ => ⟨S256x1024, .f32⟩
  | .local .tc .vmem, ⟨18, _⟩ => ⟨S256x2, .f32⟩
  | .local .tc .vmem, ⟨19, _⟩ => ⟨S256x2, .f32⟩
  | .local .tc .vmem, ⟨20, _⟩ => ⟨S256x1024, .f32⟩
  | .local .tc .vmem, ⟨21, _⟩ => ⟨S256x1024, .f32⟩
  | .local .tc .smem, ⟨0, _⟩ => ⟨S40, .i32⟩
  | .local .tc .smem, ⟨1, _⟩ => ⟨S40, .i32⟩
  | .local .tc .smem, ⟨2, _⟩ => ⟨S40, .i32⟩
  | .local .scVector .vmem, ⟨0, _⟩ => ⟨S64x1024, .f32⟩
  | .local .scVector .vmem, ⟨1, _⟩ => ⟨S64, .i32⟩
  | _, _ => ⟨S32768x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_v2_scv : Ref sig .scVector := ⟨.hbm, 10, rfl⟩
abbrev main_arg4_scv : Ref sig .scVector := ⟨.hbm, 1, rfl⟩
abbrev main_arg5_scv : Ref sig .scVector := ⟨.hbm, 2, rfl⟩
abbrev main_v3_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v15 : Index := Scalar.indexCast arg0
  ![v15.toNat]
def k0_cond2 (v16 : BitVec 32) : BitVec 1 :=
  let c1_i32_3 : BitVec 32 := 1#32
  let v17 : BitVec 1 := Scalar.cmpi .eq v16 c1_i32_3
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S40) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S40) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_11 : BitVec 32 := 0#32
  let v30 : BitVec 1 := Scalar.cmpi .eq v11 c0_i32_11
  let v31 : BitVec 32 := Scalar.extui v30
  let c0_i32_12 : BitVec 32 := 0#32
  let v32 : BitVec 1 := Scalar.cmpi .ne v31 c0_i32_12
  v32

@[reducible] def k1_t1_loop : Scf.Loop 32 :=
  let c0_i32_15 : BitVec 32 := 0#32
  let c4_i32 : BitVec 32 := 4#32
  let v36 : BitVec 32 := Scalar.addi c0_i32_15 c4_i32
  let c1_i32_16 : BitVec 32 := 1#32
  ⟨c0_i32_15, v36, c1_i32_16⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c256_i32 : BitVec 32 := 256#32
  let v29 : BitVec 32 := Scalar.muli v28 c256_i32
  let c0_i32_18 : BitVec 32 := 0#32
  let c0_i32_15 : BitVec 32 := 0#32
  let c1_i32_16 : BitVec 32 := 1#32
  let arg9 : BitVec 32 := Scf.iv c0_i32_15 c1_i32_16 k1_t1
  let c64_i32 : BitVec 32 := 64#32
  let v37 : BitVec 32 := Scalar.muli arg9 c64_i32
  let v38 : BitVec 32 := Scalar.addi c0_i32_18 v37
  let v39 : BitVec 32 := Scalar.addi v29 v38
  ![v39.toNat]
@[reducible] def k1_t2_loop : Scf.Loop 32 :=
  let c0_i32_19 : BitVec 32 := 0#32
  let c8_i32 : BitVec 32 := 8#32
  let v40 : BitVec 32 := Scalar.addi c0_i32_19 c8_i32
  let c1_i32_20 : BitVec 32 := 1#32
  ⟨c0_i32_19, v40, c1_i32_20⟩
def k1_mult1 (k1_t2 : Fin k1_t2_loop.trips) : BitVec 32 :=
  let c0_i32_22 : BitVec 32 := 0#32
  let c0_i32_19 : BitVec 32 := 0#32
  let c1_i32_20 : BitVec 32 := 1#32
  let arg10 : BitVec 32 := Scf.iv c0_i32_19 c1_i32_20 k1_t2
  let c128_i32 : BitVec 32 := 128#32
  let v42 : BitVec 32 := Scalar.muli arg10 c128_i32
  let v43 : BitVec 32 := Scalar.addi c0_i32_22 v42
  v43
def k1_off2 (k1_t2 : Fin k1_t2_loop.trips) : Fin 2 → Nat :=
  let c0_i32_23 : BitVec 32 := 0#32
  let c0_i32_22 : BitVec 32 := 0#32
  let c0_i32_19 : BitVec 32 := 0#32
  let c1_i32_20 : BitVec 32 := 1#32
  let arg10 : BitVec 32 := Scf.iv c0_i32_19 c1_i32_20 k1_t2
  let c128_i32 : BitVec 32 := 128#32
  let v42 : BitVec 32 := Scalar.muli arg10 c128_i32
  let v43 : BitVec 32 := Scalar.addi c0_i32_22 v42
  let v44 : BitVec 32 := v43
  ![0, v44.toNat]
def k1_off3 (k1_t2 : Fin k1_t2_loop.trips) : Fin 2 → Nat :=
  let c0_i32_24 : BitVec 32 := 0#32
  let c0_i32_22 : BitVec 32 := 0#32
  let c0_i32_19 : BitVec 32 := 0#32
  let c1_i32_20 : BitVec 32 := 1#32
  let arg10 : BitVec 32 := Scf.iv c0_i32_19 c1_i32_20 k1_t2
  let c128_i32 : BitVec 32 := 128#32
  let v42 : BitVec 32 := Scalar.muli arg10 c128_i32
  let v43 : BitVec 32 := Scalar.addi c0_i32_22 v42
  let v44 : BitVec 32 := v43
  ![0, v44.toNat]
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c256_i32 : BitVec 32 := 256#32
  let v29 : BitVec 32 := Scalar.muli v28 c256_i32
  let c0_i32_18 : BitVec 32 := 0#32
  let c0_i32_15 : BitVec 32 := 0#32
  let c1_i32_16 : BitVec 32 := 1#32
  let arg9 : BitVec 32 := Scf.iv c0_i32_15 c1_i32_16 k1_t1
  let c64_i32 : BitVec 32 := 64#32
  let v37 : BitVec 32 := Scalar.muli arg9 c64_i32
  let v38 : BitVec 32 := Scalar.addi c0_i32_18 v37
  let v41 : BitVec 32 := Scalar.addi v29 v38
  let c0_i32_22_r1 : BitVec 32 := 0#32
  ![v41.toNat, 0]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_13 : BitVec 32 := 1#32
  let v33 : BitVec 1 := Scalar.cmpi .eq v11 c1_i32_13
  let v34 : BitVec 32 := Scalar.extui v33
  let c0_i32_14 : BitVec 32 := 0#32
  let v35 : BitVec 1 := Scalar.cmpi .ne v34 c0_i32_14
  v35

@[reducible] def k1_t3_loop : Scf.Loop 32 :=
  let c0_i32_15 : BitVec 32 := 0#32
  let c4_i32 : BitVec 32 := 4#32
  let v36 : BitVec 32 := Scalar.addi c0_i32_15 c4_i32
  let c1_i32_16 : BitVec 32 := 1#32
  ⟨c0_i32_15, v36, c1_i32_16⟩
def k1_off5 (i : grid1.Coords) (k1_t3 : Fin k1_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c256_i32 : BitVec 32 := 256#32
  let v29 : BitVec 32 := Scalar.muli v28 c256_i32
  let c0_i32_18 : BitVec 32 := 0#32
  let c0_i32_15 : BitVec 32 := 0#32
  let c1_i32_16 : BitVec 32 := 1#32
  let arg9 : BitVec 32 := Scf.iv c0_i32_15 c1_i32_16 k1_t3
  let c64_i32 : BitVec 32 := 64#32
  let v37 : BitVec 32 := Scalar.muli arg9 c64_i32
  let v38 : BitVec 32 := Scalar.addi c0_i32_18 v37
  let v39 : BitVec 32 := Scalar.addi v29 v38
  ![v39.toNat]
@[reducible] def k1_t4_loop : Scf.Loop 32 :=
  let c0_i32_19 : BitVec 32 := 0#32
  let c8_i32 : BitVec 32 := 8#32
  let v40 : BitVec 32 := Scalar.addi c0_i32_19 c8_i32
  let c1_i32_20 : BitVec 32 := 1#32
  ⟨c0_i32_19, v40, c1_i32_20⟩
def k1_mult2 (k1_t4 : Fin k1_t4_loop.trips) : BitVec 32 :=
  let c0_i32_22 : BitVec 32 := 0#32
  let c0_i32_19 : BitVec 32 := 0#32
  let c1_i32_20 : BitVec 32 := 1#32
  let arg10 : BitVec 32 := Scf.iv c0_i32_19 c1_i32_20 k1_t4
  let c128_i32 : BitVec 32 := 128#32
  let v43 : BitVec 32 := Scalar.muli arg10 c128_i32
  let v44 : BitVec 32 := Scalar.addi c0_i32_22 v43
  v44
def k1_off6 (k1_t4 : Fin k1_t4_loop.trips) : Fin 2 → Nat :=
  let c0_i32_23 : BitVec 32 := 0#32
  let c0_i32_22 : BitVec 32 := 0#32
  let c0_i32_19 : BitVec 32 := 0#32
  let c1_i32_20 : BitVec 32 := 1#32
  let arg10 : BitVec 32 := Scf.iv c0_i32_19 c1_i32_20 k1_t4
  let c128_i32 : BitVec 32 := 128#32
  let v43 : BitVec 32 := Scalar.muli arg10 c128_i32
  let v44 : BitVec 32 := Scalar.addi c0_i32_22 v43
  let v45 : BitVec 32 := v44
  ![0, v45.toNat]
def k1_off7 (k1_t4 : Fin k1_t4_loop.trips) : Fin 2 → Nat :=
  let c0_i32_24 : BitVec 32 := 0#32
  let c0_i32_22 : BitVec 32 := 0#32
  let c0_i32_19 : BitVec 32 := 0#32
  let c1_i32_20 : BitVec 32 := 1#32
  let arg10 : BitVec 32 := Scf.iv c0_i32_19 c1_i32_20 k1_t4
  let c128_i32 : BitVec 32 := 128#32
  let v43 : BitVec 32 := Scalar.muli arg10 c128_i32
  let v44 : BitVec 32 := Scalar.addi c0_i32_22 v43
  let v45 : BitVec 32 := v44
  ![0, v45.toNat]
def k1_off8 (i : grid1.Coords) (k1_t3 : Fin k1_t3_loop.trips) : Fin 2 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c256_i32 : BitVec 32 := 256#32
  let v29 : BitVec 32 := Scalar.muli v28 c256_i32
  let v41 : BitVec 32 := Scalar.addi c4096_i32 v29
  let c0_i32_18 : BitVec 32 := 0#32
  let c0_i32_15 : BitVec 32 := 0#32
  let c1_i32_16 : BitVec 32 := 1#32
  let arg9 : BitVec 32 := Scf.iv c0_i32_15 c1_i32_16 k1_t3
  let c64_i32 : BitVec 32 := 64#32
  let v37 : BitVec 32 := Scalar.muli arg9 c64_i32
  let v38 : BitVec 32 := Scalar.addi c0_i32_18 v37
  let v42 : BitVec 32 := Scalar.addi v41 v38
  let c0_i32_22_r3 : BitVec 32 := 0#32
  ![v42.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "slope" => some ((1 / 100 : ℝ) : EReal)
  | _ => none
-- ==== ReferenceIdeal.lean ====
abbrev S32768x1024 : Shape := ⟨2, ![32768, 1024]⟩
abbrev S40 : Shape := ⟨1, ![40]⟩
abbrev S4096 : Shape := ⟨1, ![4096]⟩
abbrev S4096x2 : Shape := ⟨2, ![4096, 2]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S32768x8x2048 : Shape := ⟨3, ![32768, 8, 2048]⟩
abbrev S1x8x2048 : Shape := ⟨3, ![1, 8, 2048]⟩
abbrev S_ : Shape := ⟨0, ![]⟩
abbrev S8x1024x32768 : Shape := ⟨3, ![8, 1024, 32768]⟩
abbrev S32768x8x1024 : Shape := ⟨3, ![32768, 8, 1024]⟩
abbrev S1x8x1024 : Shape := ⟨3, ![1, 8, 1024]⟩
abbrev S4096x1 : Shape := ⟨2, ![4096, 1]⟩
abbrev S4096x2x1 : Shape := ⟨3, ![4096, 2, 1]⟩
abbrev S4096x2x2 : Shape := ⟨3, ![4096, 2, 2]⟩
abbrev S4096x2x1024 : Shape := ⟨3, ![4096, 2, 1024]⟩
abbrev S4096x1024 : Shape := ⟨2, ![4096, 1024]⟩

abbrev nBuf : Space → Nat
  | .hbm => 78
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S40, .i32⟩
  | .hbm, ⟨2, _⟩ => ⟨S40, .i32⟩
  | .hbm, ⟨3, _⟩ => ⟨S40, .i32⟩
  | .hbm, ⟨4, _⟩ => ⟨S4096, .i32⟩
  | .hbm, ⟨5, _⟩ => ⟨S4096, .i32⟩
  | .hbm, ⟨6, _⟩ => ⟨S4096x2, .f32⟩
  | .hbm, ⟨7, _⟩ => ⟨S8x1024x2048, .f32⟩
  | .hbm, ⟨8, _⟩ => ⟨S8x2048, .f32⟩
  | .hbm, ⟨9, _⟩ => ⟨S8x2048x1024, .f32⟩
  | .hbm, ⟨10, _⟩ => ⟨S8x1024, .f32⟩
  | .hbm, ⟨11, _⟩ => ⟨S32768x8x2048, .f32⟩
  | .hbm, ⟨12, _⟩ => ⟨S1x8x2048, .f32⟩
  | .hbm, ⟨13, _⟩ => ⟨S32768x8x2048, .f32⟩
  | .hbm, ⟨14, _⟩ => ⟨S32768x8x2048, .f32⟩
  | .hbm, ⟨15, _⟩ => ⟨S_, .f32⟩
  | .hbm, ⟨16, _⟩ => ⟨S32768x8x2048, .f32⟩
  | .hbm, ⟨17, _⟩ => ⟨S32768x8x2048, .i1⟩
  | .hbm, ⟨18, _⟩ => ⟨S_, .f32⟩
  | .hbm, ⟨19, _⟩ => ⟨S32768x8x2048, .f32⟩
  | .hbm, ⟨20, _⟩ => ⟨S32768x8x2048, .f32⟩
  | .hbm, ⟨21, _⟩ => ⟨S32768x8x2048, .f32⟩
  | .hbm, ⟨22, _⟩ => ⟨S8x1024x32768, .f32⟩
  | .hbm, ⟨23, _⟩ => ⟨S32768x8x1024, .f32⟩
  | .hbm, ⟨24, _⟩ => ⟨S1x8x1024, .f32⟩
  | .hbm, ⟨25, _⟩ => ⟨S32768x8x1024, .f32⟩
  | .hbm, ⟨26, _⟩ => ⟨S32768x8x1024, .f32⟩
  | .hbm, ⟨27, _⟩ => ⟨S_, .f32⟩
  | .hbm, ⟨28, _⟩ => ⟨S32768x8x1024, .f32⟩
  | .hbm, ⟨29, _⟩ => ⟨S32768x8x1024, .i1⟩
  | .hbm, ⟨30, _⟩ => ⟨S_, .f32⟩
  | .hbm, ⟨31, _⟩ => ⟨S32768x8x1024, .f32⟩
  | .hbm, ⟨32, _⟩ => ⟨S32768x8x1024, .f32⟩
  | .hbm, ⟨33, _⟩ => ⟨S32768x8x1024, .f32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S_, .i32⟩
  | .hbm, ⟨38, _⟩ => ⟨S_, .i32⟩
  | .hbm, ⟨39, _⟩ => ⟨S4096x2, .i32⟩
  | .hbm, ⟨40, _⟩ => ⟨S4096x2, .i32⟩
  | .hbm, ⟨41, _⟩ => ⟨S4096x2, .i32⟩
  | .hbm, ⟨42, _⟩ => ⟨S_, .i32⟩
  | .hbm, ⟨43, _⟩ => ⟨S4096x2, .i32⟩
  | .hbm, ⟨44, _⟩ => ⟨S4096x2, .i1⟩
  | .hbm, ⟨45, _⟩ => ⟨S4096x2, .i32⟩
  | .hbm, ⟨46, _⟩ => ⟨S4096x2, .i32⟩
  | .hbm, ⟨47, _⟩ => ⟨S_, .i32⟩
  | .hbm, ⟨48, _⟩ => ⟨S4096x2, .i32⟩
  | .hbm, ⟨49, _⟩ => ⟨S4096x2, .i1⟩
  | .hbm, ⟨50, _⟩ => ⟨S4096x2, .i1⟩
  | .hbm, ⟨51, _⟩ => ⟨S_, .i32⟩
  | .hbm, ⟨52, _⟩ => ⟨S4096x2, .i32⟩
  | .hbm, ⟨53, _⟩ => ⟨S4096x2, .i32⟩
  | .hbm, ⟨54, _⟩ => ⟨S4096x2, .i32⟩
  | .hbm, ⟨55, _⟩ => ⟨S_, .i32⟩
  | .hbm, ⟨56, _⟩ => ⟨S4096x2, .i32⟩
  | .hbm, ⟨57, _⟩ => ⟨S4096x2, .i1⟩
  | .hbm, ⟨58, _⟩ => ⟨S_, .i32⟩
  | .hbm, ⟨59, _⟩ => ⟨S4096x2, .i32⟩
  | .hbm, ⟨60, _⟩ => ⟨S4096x2, .i32⟩
  | .hbm, ⟨61, _⟩ => ⟨S4096x2, .i32⟩
  | .hbm, ⟨62, _⟩ => ⟨S_, .i32⟩
  | .hbm, ⟨63, _⟩ => ⟨S4096x2, .i32⟩
  | .hbm, ⟨64, _⟩ => ⟨S4096x2, .i1⟩
  | .hbm, ⟨65, _⟩ => ⟨S_, .i32⟩
  | .hbm, ⟨66, _⟩ => ⟨S4096x2, .i32⟩
  | .hbm, ⟨67, _⟩ => ⟨S4096x2, .i32⟩
  | .hbm, ⟨68, _⟩ => ⟨S4096x2, .i32⟩
  | .hbm, ⟨69, _⟩ => ⟨S4096x2x1, .i32⟩
  | .hbm, ⟨70, _⟩ => ⟨S4096x2x1, .i32⟩
  | .hbm, ⟨71, _⟩ => ⟨S4096x2x2, .i32⟩
  | .hbm, ⟨72, _⟩ => ⟨S4096x2x1024, .f32⟩
  | .hbm, ⟨73, _⟩ => ⟨S4096x2x1, .f32⟩
  | .hbm, ⟨74, _⟩ => ⟨S4096x2x1024, .f32⟩
  | .hbm, ⟨75, _⟩ => ⟨S4096x2x1024, .f32⟩
  | .hbm, ⟨76, _⟩ => ⟨S_, .f32⟩
  | .hbm, ⟨77, _⟩ => ⟨S4096x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v22 : Ref sig .tc := ⟨.hbm, 54, rfl⟩
abbrev main_c_3 : Ref sig .tc := ⟨.hbm, 55, rfl⟩
abbrev main_v23 : Ref sig .tc := ⟨.hbm, 56, rfl⟩
abbrev main_v24 : Ref sig .tc := ⟨.hbm, 57, rfl⟩
abbrev main_c_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_5 : Ref sig .tc := ⟨.hbm, 62, rfl⟩
abbrev main_v28 : Ref sig .tc := ⟨.hbm, 63, rfl⟩
abbrev main_v29 : Ref sig .tc := ⟨.hbm, 64, rfl⟩
abbrev main_c_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩

abbrev nD : Nat := 1
abbrev τ : Topo := Topo.v7x

variable {F : FTy → Type} [FloatOps F]
-- ==== Router.lean ====
abbrev S2x2048x1024 : Shape := ⟨3, ![2, 2048, 1024]⟩
abbrev S1024x8 : Shape := ⟨2, ![1024, 8]⟩
abbrev S8 : Shape := ⟨1, ![8]⟩
abbrev S4096x1024 : Shape := ⟨2, ![4096, 1024]⟩
abbrev S1x8 : Shape := ⟨2, ![1, 8]⟩
abbrev S4096x1 : Shape := ⟨2, ![4096, 1]⟩
abbrev S4096x2 : Shape := ⟨2, ![4096, 2]⟩
abbrev S40x1 : Shape := ⟨2, ![40, 1]⟩
abbrev S1x1 : Shape := ⟨2, ![1, 1]⟩
abbrev S256x1024 : Shape := ⟨2, ![256, 1024]⟩
abbrev S256x1 : Shape := ⟨2, ![256, 1]⟩
abbrev S256x2 : Shape := ⟨2, ![256, 2]⟩
abbrev S256x8 : Shape := ⟨2, ![256, 8]⟩
abbrev S256 : Shape := ⟨1, ![256]⟩
abbrev S256x256 : Shape := ⟨2, ![256, 256]⟩
abbrev S1 : Shape := ⟨1, ![1]⟩
abbrev S8x8 : Shape := ⟨2, ![8, 8]⟩
abbrev S40x8 : Shape := ⟨2, ![40, 8]⟩
abbrev S40 : Shape := ⟨1, ![40]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8, .f32⟩
  | .hbm, ⟨3, _⟩ => ⟨S4096x1024, .f32⟩
  | .hbm, ⟨4, _⟩ => ⟨S1x8, .f32⟩
  | .hbm, ⟨5, _⟩ => ⟨S4096x1, .i32⟩
  | .hbm, ⟨6, _⟩ => ⟨S4096x1, .i32⟩
  | .hbm, ⟨7, _⟩ => ⟨S4096x2, .f32⟩
  | .hbm, ⟨8, _⟩ => ⟨S40x1, .i32⟩
  | .hbm, ⟨9, _⟩ => ⟨S40x1, .i32⟩
  | .hbm, ⟨10, _⟩ => ⟨S40x1, .i32⟩
  | .hbm, ⟨11, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S1024x8, .f32⟩
  | .local _ .vmem, ⟨3, _⟩ => ⟨S1x8, .f32⟩
  | .local _ .vmem, ⟨4, _⟩ => ⟨S256x1, .i32⟩
  | .local _ .vmem, ⟨5, _⟩ => ⟨S256x1, .i32⟩
  | .local _ .vmem, ⟨6, _⟩ => ⟨S256x1, .i32⟩
  | .local _ .vmem, ⟨7, _⟩ => ⟨S256x1, .i32⟩
  | .local _ .vmem, ⟨8, _⟩ => ⟨S256x2, .f32⟩
  | .local _ .vmem, ⟨9, _⟩ => ⟨S256x2, .f32⟩
  | .local _ .vmem, ⟨10, _⟩ => ⟨S40x1, .i32⟩
  | .local _ .vmem, ⟨11, _⟩ => ⟨S40x1, .i32⟩
  | .local _ .vmem, ⟨12, _⟩ => ⟨S40x1, .i32⟩
  | .local _ .vmem, ⟨13, _⟩ => ⟨S1x1, .f32⟩
  | .local _ .vmem, ⟨14, _⟩ => ⟨S1x8, .f32⟩
  | .local _ .vmem, ⟨15, _⟩ => ⟨S1x8, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v97 : BitVec 1 := Scalar.cmpi .eq arg0 c15_i32
  let v98 : BitVec 32 := Scalar.extui v97
  let c0_i32_37 : BitVec 32 := 0#32
  let v99 : BitVec 1 := Scalar.cmpi .ne v98 c0_i32_37
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S40x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossIdeal.lean ====
abbrev S2x2048x1024 : Shape := ⟨3, ![2, 2048, 1024]⟩
abbrev S1024x8 : Shape := ⟨2, ![1024, 8]⟩
abbrev S8 : Shape := ⟨1, ![8]⟩
abbrev S4096x1024 : Shape := ⟨2, ![4096, 1024]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8, .f32⟩
  | .hbm, ⟨3, _⟩ => ⟨S4096x1024, .f32⟩
  | .hbm, ⟨4, _⟩ => ⟨S4096x8, .f32⟩
  | .hbm, ⟨5, _⟩ => ⟨S1x8, .f32⟩
  | .hbm, ⟨6, _⟩ => ⟨S4096x8, .f32⟩
  | .hbm, ⟨7, _⟩ => ⟨S4096x8, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x1, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x8, .f32⟩
  | .hbm, ⟨21, _⟩ => ⟨S4096x8, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x1, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Setup.lean ====
/-
  The set-up the proof modules share: the program as the launch sees it, the resource algebra (the handshakes' rounds,
  the rounds of the TensorCore call's schedule, the transfers' counters), the locations of the arrays, and the VALUE the
  SparseCore call leaves in its result: row `n` of it is the row of `ys` that the `n`-th position names, the positions
  being `p0` for the first 4096 rows and `p1` for the rest.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores of the call are distinct from the tiles' own, and no buffer is task-shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The rounds of the call's handshakes. -/
abbrev UH : Type := URounds (GSem nD τ sig) ℕ
/-- The rounds of the TensorCore call's schedule. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev yLoc (d : Dev nD) : Loc nD τ sig := (SparseCore.T d).loc main_v2
abbrev p0Loc (d : Dev nD) : Loc nD τ sig := (SparseCore.T d).loc main_arg4
abbrev p1Loc (d : Dev nD) : Loc nD τ sig := (SparseCore.T d).loc main_arg5
abbrev wLoc (d : Dev nD) : Loc nD τ sig := (SparseCore.T d).loc main_arg6
abbrev gLoc (d : Dev nD) : Loc nD τ sig := (SparseCore.T d).loc main_v3
abbrev oLoc (d : Dev nD) : Loc nD τ sig := (SparseCore.T d).loc main_v4

abbrev yV : Memref sig Kind.scVector Space.hbm S32768x1024 EltTy.f32 := Memref.whole main_v2_scv
abbrev p0V : Memref sig Kind.scVector Space.hbm S4096 EltTy.i32 := Memref.whole main_arg4_scv
abbrev p1V : Memref sig Kind.scVector Space.hbm S4096 EltTy.i32 := Memref.whole main_arg5_scv
abbrev gV : Memref sig Kind.scVector Space.hbm S8192x1024 EltTy.f32 := Memref.whole main_v3_scv
abbrev rV : Memref sig Kind.scVector Space.vmem S64x1024 EltTy.f32 := Memref.whole cc1_scratch0
abbrev sV : Memref sig Kind.scVector Space.vmem S64 EltTy.i32 := Memref.whole cc1_scratch1

/-! ## The value of the gathered rows -/

/-- The row of `ys` a position names. -/
def rowOf (w : BitVec 32) : Fin 32768 := ⟨w.toNat % 32768, Nat.mod_lt _ (by decide)⟩

theorem rowOf_val {w : BitVec 32} (h : w.toNat < 32768) : (rowOf w).val = w.toNat := Nat.mod_eq_of_lt h

/-- The gathered rows: row `n` is the row of `y` at position `q0 n` for `n < 4096`, at `q1 (n - 4096)` above. -/
def gVal (y : S32768x1024.Idx → Elt F .f32) (q0 q1 : S4096.Idx → BitVec 32) : S8192x1024.Idx → Elt F .f32 := fun x =>
  if h : (x 0).val < 4096 then y (ix2 (rowOf (q0 (ix1 ⟨(x 0).val, h⟩))) (x 1))
  else y (ix2 (rowOf (q1 (ix1 ⟨(x 0).val - 4096, by have h8 : (x 0).val < 8192 := (x 0).isLt; omega⟩))) (x 1))

/-- The rows gathered from `Y` at the launch memory's positions. -/
def gY (d : Dev nD) (Y : S32768x1024.Idx → Elt F .f32) : Buf (Elt F) (gLoc d) := gVal Y (m (p0Loc d)) (m (p1Loc d))

/-- Every position is below 32768, a row of `ys`. -/
def PosOK : Prop := ∀ (d : Dev nD) (j : S4096.Idx), (m (p0Loc d) j : BitVec 32).toNat < 32768 ∧ (m (p1Loc d) j : BitVec 32).toNat < 32768

end Cert.Proof.Gather
-- ==== Proof.Rows.lean ====
/-
  What one tile's transfers leave, element by element: a landed chunk of the position list, one step of the gather (128
  columns of 64 rows of `ys`), and the chunk of rows written out. No separation logic here: contents only.
-/
module

public import proofs.«01_k».proof.Proof.Setup

@[expose] public section

noncomputable section

namespace Cert.Proof.Gather

open Cert.KernelIdeal Cert.KernelIdeal.Gen
open Idealize.ShloMosaic Idealize.ShloMosaic.ValueIdx

variable {F : FTy → Type}

/-! ## Offsets in closed form -/

theorem cond1_iff : ∀ i : grid1.Coords, k1_cond1 i = 1#1 ↔ (i 0).val = 0 := by decide +kernel
theorem cond2_iff : ∀ i : grid1.Coords, k1_cond2 i = 1#1 ↔ (i 0).val = 1 := by decide +kernel
theorem off1_eq : ∀ (i : grid1.Coords) (t : Fin k1_t1_loop.trips), k1_off1 i t = ![256 * (i 1).val + 64 * t.val] := by decide +kernel
theorem off4_eq : ∀ (i : grid1.Coords) (t : Fin k1_t1_loop.trips), k1_off4 i t = ![256 * (i 1).val + 64 * t.val, 0] := by decide +kernel
theorem off5_eq : ∀ (i : grid1.Coords) (t : Fin k1_t3_loop.trips), k1_off5 i t = ![256 * (i 1).val + 64 * t.val] := by decide +kernel
theorem off8_eq : ∀ (i : grid1.Coords) (t : Fin k1_t3_loop.trips), k1_off8 i t = ![4096 + (256 * (i 1).val + 64 * t.val), 0] := by decide +kernel
theorem trips1 : k1_t1_loop.trips = 4 := by decide +kernel
theorem trips2 : k1_t2_loop.trips = 8 := by decide +kernel
theorem trips3 : k1_t3_loop.trips = 4 := by decide +kernel
theorem trips4 : k1_t4_loop.trips = 8 := by decide +kernel

/-! ## A slice of a whole buffer, element by element -/

/-- Columns `128 n … 128 n + 127` of the row scratch. -/
abbrev colMem (off : Fin 2 → ℕ) (h : ∀ a, off a + S64x128.size a ≤ S64x1024.size a) : Memref sig Kind.scVector Space.vmem S64x128 EltTy.f32 :=
  rV.slice (Rect.unit (s := S64x1024) off S64x128.size h) (fun _ => rfl)
/-- The same columns of all of `ys`. -/
abbrev tabMem (off : Fin 2 → ℕ) (h : ∀ a, off a + S32768x128.size a ≤ S32768x1024.size a) : Memref sig Kind.scVector Space.hbm S32768x128 EltTy.f32 :=
  yV.slice (Rect.unit (s := S32768x1024) off S32768x128.size h) (fun _ => rfl)
/-- A chunk of 64 rows of the result. -/
abbrev outMem (off : Fin 2 → ℕ) (h : ∀ a, off a + S64x1024.size a ≤ S8192x1024.size a) : Memref sig Kind.scVector Space.hbm S64x1024 EltTy.f32 :=
  gV.slice (Rect.unit (s := S8192x1024) off S64x1024.size h) (fun _ => rfl)

/-- The first `n` columns of the row scratch hold the rows of `y` that the list `q` names. -/
def ColsDone (y : S32768x1024.Idx → Elt F .f32) (q : S64.Idx → BitVec 32) (n : ℕ) (f : S64x1024.Idx → Elt F .f32) : Prop :=
  ∀ x : S64x1024.Idx, (x 1).val < n → f x = y (ix2 (rowOf (q (ix1 (x 0)))) (x 1))

/-- Entry `k` of the list, as the row it names. -/
theorem rows_val {o z : ℕ} (idx : S64.Idx → Elt F .i32) (hn : S64.numel = o) (h : ∀ x, (idx x : BitVec 32).toNat < z) (k : Fin o) (k' : Fin 64) (hk : k.val = k'.val) :
    (SparseCore.rows idx hn h k).val = (idx (ix1 k') : BitVec 32).toNat := by
  have hm : ∀ k : Fin 64, k.val = (S64.rowMajor (ix1 k)).val := by decide +kernel
  have e : S64.rowMajor.symm (k.cast hn.symm) = ix1 k' := by
    apply S64.rowMajor.injective
    rw [Equiv.apply_symm_apply]
    exact Fin.ext (hk.trans (hm k'))
  show (idx (S64.rowMajor.symm (k.cast hn.symm)) : BitVec 32).toNat = _
  rw [e]

theorem colMem_emb {o : Fin 2 → ℕ} (h : ∀ a, o a + S64x128.size a ≤ S64x1024.size a) (x : S64x128.Idx) (a : Fin 2) :
    ((colMem o h).view.emb x a).val = o a + (x a).val := by
  show ((Rect.unit (s := S64x1024) o S64x128.size h).emb x a).val = _
  rw [Rect.emb_apply, Rect.off_unit, Rect.stride_unit, Nat.one_mul]

theorem tabMem_emb {o : Fin 2 → ℕ} (h : ∀ a, o a + S32768x128.size a ≤ S32768x1024.size a) (x : S32768x128.Idx) (a : Fin 2) :
    ((tabMem o h).view.emb x a).val = o a + (x a).val := by
  show ((Rect.unit (s := S32768x1024) o S32768x128.size h).emb x a).val = _
  rw [Rect.emb_apply, Rect.off_unit, Rect.stride_unit, Nat.one_mul]

theorem outMem_emb {o : Fin 2 → ℕ} (h : ∀ a, o a + S64x1024.size a ≤ S8192x1024.size a) (x : S64x1024.Idx) (a : Fin 2) :
    ((outMem o h).view.emb x a).val = o a + (x a).val := by
  show ((Rect.unit (s := S8192x1024) o S64x1024.size h).emb x a).val = _
  rw [Rect.emb_apply, Rect.off_unit, Rect.stride_unit, Nat.one_mul]

theorem mem_colMem {o : Fin 2 → ℕ} (h : ∀ a, o a + S64x128.size a ≤ S64x1024.size a) (x : S64x1024.Idx) :
    x ∈ (colMem o h).view.set ↔ ∀ a : Fin 2, o a ≤ (x a).val ∧ (x a).val < o a + S64x128.size a := by
  rw [show (colMem o h).view.set = (Rect.unit (s := S64x1024) o S64x128.size h).set from View.set_slice_whole _ _]
  exact Rect.mem_set_unit

theorem mem_outMem {o : Fin 2 → ℕ} (h : ∀ a, o a + S64x1024.size a ≤ S8192x1024.size a) (x : S8192x1024.Idx) :
    x ∈ (outMem o h).view.set ↔ ∀ a : Fin 2, o a ≤ (x a).val ∧ (x a).val < o a + S64x1024.size a := by
  rw [show (outMem o h).view.set = (Rect.unit (s := S8192x1024) o S64x1024.size h).set from View.set_slice_whole _ _]
  exact Rect.mem_set_unit

/-- ONE STEP OF THE GATHER: with the columns below `128 n` done, the indirect copy of columns `128 n …` makes those
    below `128 (n + 1)` done. -/
theorem cols_step (y : S32768x1024.Idx → Elt F .f32) (q : S64.Idx → BitVec 32) (n : ℕ) (f : S64x1024.Idx → Elt F .f32)
    {o2 : Fin 2 → ℕ} (h2 : ∀ a, o2 a + S64x128.size a ≤ S64x1024.size a) (e2 : o2 = ![0, 128 * n])
    {o3 : Fin 2 → ℕ} (h3 : ∀ a, o3 a + S32768x128.size a ≤ S32768x1024.size a) (e3 : o3 = ![0, 128 * n])
    (hn : S64.numel = S64x128.size gathers_S32768x128_S64x128.axis')
    (hin : ∀ x, (sV.view.read (Elt F) q x : BitVec 32).toNat < S32768x128.size gathers_S32768x128_S64x128.axis)
    (hf : ColsDone y q (128 * n) f) :
    ColsDone y q (128 * (n + 1)) ((colMem o2 h2).view.write (Elt F) f
      (SparseCore.gatherPayload gathers_S32768x128_S64x128 ((tabMem o3 h3).view.read (Elt F) y) (SparseCore.rows (sV.view.read (Elt F) q) hn hin)) Finset.univ) := by
  intro x hx
  subst e2 e3
  by_cases hlt : (x 1).val < 128 * n
  · rw [View.write_of_not_mem]
    · exact hf x hlt
    · rw [View.setOn_univ, mem_colMem]
      intro hm
      have := (hm 1).1
      simp at this
      omega
  · have hx1 : (x 1).val - 128 * n < 128 := by omega
    have hz : (colMem _ h2).view.emb (ix2 (x 0) ⟨(x 1).val - 128 * n, hx1⟩) = x := by
      funext a
      apply Fin.ext
      rw [colMem_emb]
      match a with
      | 0 => show 0 + (x 0).val = (x 0).val; omega
      | 1 => show 128 * n + ((x 1).val - 128 * n) = (x 1).val; omega
    generalize hW : SparseCore.gatherPayload gathers_S32768x128_S64x128 ((tabMem _ h3).view.read (Elt F) y) (SparseCore.rows (sV.view.read (Elt F) q) hn hin) = w
    conv_lhs => rw [← hz]
    rw [View.write_emb_of_mem _ _ (Finset.mem_univ _), cast_eq, ← hW]
    unfold SparseCore.gatherPayload
    rw [View.read_apply, cast_eq]
    congr 1
    funext a
    apply Fin.ext
    rw [tabMem_emb]
    match a with
    | 0 =>
      have e := Shape.Gathers.idx_axis gathers_S32768x128_S64x128 (SparseCore.rows (sV.view.read (Elt F) q) hn hin) (ix2 (x 0) ⟨(x 1).val - 128 * n, hx1⟩)
      have hr := rows_val (F := F) (sV.view.read (Elt F) q) hn hin (x 0) (x 0) rfl
      refine (Nat.zero_add _).trans ((congrArg Fin.val e).trans (hr.trans ?_))
      have := hin (ix1 (x 0))
      simp only [Memref.view_whole, View.read_whole] at this ⊢
      exact (rowOf_val this).symm
    | 1 =>
      rw [Shape.Gathers.idx_of_ne _ _ _ _ (show (1 : ℕ) ≠ 0 by decide)]
      show 128 * n + ((x 1).val - 128 * n) = (x 1).val
      omega

/-! ## The list chunk and the written-out chunk -/

/-- A chunk of 64 entries of a position list. -/
abbrev lstMem (pV : Memref sig Kind.scVector Space.hbm S4096 EltTy.i32) (o : Fin 1 → ℕ) (h : ∀ a, o a + S64.size a ≤ S4096.size a) : Memref sig Kind.scVector Space.hbm S64 EltTy.i32 :=
  pV.slice (Rect.unit (s := S4096) o S64.size h) (fun _ => rfl)

/-- The list `q` holds the 64 entries of `p` from `b` on. -/
def ListAt (p : S4096.Idx → BitVec 32) (b : ℕ) (q : S64.Idx → BitVec 32) : Prop :=
  ∀ (k : Fin 64) (h : b + k.val < 4096), q (ix1 k) = p (ix1 ⟨b + k.val, h⟩)

/-- The element of a position list a rectangle's index names. -/
theorem lst_emb {o : Fin 1 → ℕ} (h : ∀ a, o a + S64.size a ≤ S4096.size a) {b : ℕ} (e : o = ![b]) (k : Fin 64) (hk : b + k.val < 4096) :
    (Rect.unit (s := S4096) o S64.size h).emb (ix1 k) = ix1 (n := 4096) ⟨b + k.val, hk⟩ := by
  subst e
  funext a
  apply Fin.ext
  rw [Rect.emb_apply, Rect.off_unit, Rect.stride_unit, Nat.one_mul]
  match a with
  | 0 => rfl

/-- What the list's copy lands is the list's chunk. -/
theorem listAt_land0 (p : S4096.Idx → BitVec 32) {o : Fin 1 → ℕ} (h : ∀ a, o a + S64.size a ≤ S4096.size a) {b : ℕ} (e : o = ![b]) (f : S64.Idx → BitVec 32) :
    ListAt p b (View.write (Elt F) sV.view f ((lstMem p0V o h).view.read (Elt F) p) Finset.univ) := by
  intro k hk
  refine (congrFun (View.write_whole_univ (Val := Elt F) cc1_scratch1 f _) (ix1 k)).trans ?_
  rw [View.read_apply, cast_eq]
  exact congrArg p (lst_emb h e k hk)

/-- The same for the second list. -/
theorem listAt_land1 (p : S4096.Idx → BitVec 32) {o : Fin 1 → ℕ} (h : ∀ a, o a + S64.size a ≤ S4096.size a) {b : ℕ} (e : o = ![b]) (f : S64.Idx → BitVec 32) :
    ListAt p b (View.write (Elt F) sV.view f ((lstMem p1V o h).view.read (Elt F) p) Finset.univ) := by
  intro k hk
  refine (congrFun (View.write_whole_univ (Val := Elt F) cc1_scratch1 f _) (ix1 k)).trans ?_
  rw [View.read_apply, cast_eq]
  exact congrArg p (lst_emb h e k hk)

/-- A landed chunk of a list all of whose entries name rows names rows. -/
theorem list_inb {p : S4096.Idx → BitVec 32} (hp : ∀ j, (p j).toNat < 32768) {b : ℕ} (hb : b + 64 ≤ 4096) {q : S64.Idx → BitVec 32} (hq : ListAt p b q) :
    ∀ x, (sV.view.read (Elt F) q x : BitVec 32).toNat < S32768x128.size gathers_S32768x128_S64x128.axis := by
  intro x
  have h0 : (x 0).val < 64 := (x 0).isLt
  have e := hq (x 0) (by omega)
  have h := hp (ix1 ⟨b + (x 0).val, by omega⟩)
  rw [← e] at h
  simp only [Memref.view_whole, View.read_whole]
  rw [eq_ix1 x]
  exact h

/-- Rows `lo … n - 1` of the result are at their value. -/
def OutDone (G : S8192x1024.Idx → Elt F .f32) (lo n : ℕ) (f : S8192x1024.Idx → Elt F .f32) : Prop :=
  ∀ x : S8192x1024.Idx, lo ≤ (x 0).val → (x 0).val < n → f x = G x

/-- A write of the whole of a view, as one piece, is the write through the view. -/
theorem writes_whole {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  rw [View.writes_cons, View.writes_nil]
  funext i
  have hset : (v.slice (Rect.whole s)).set = v.set := by rw [View.set_slice, Rect.set_whole]; rfl
  by_cases hi : i ∈ v.set
  · obtain ⟨z, -, rfl⟩ := Finset.mem_map.mp hi
    rw [View.write_emb_of_mem f w (Finset.mem_univ z)]
    have hz : (v.slice (Rect.whole s)).emb z = v.emb z := congrArg v.emb (Rect.emb_whole_apply s z)
    conv_lhs => rw [← hz]
    exact View.write_emb_of_mem (v := v.slice (Rect.whole s)) f w (Finset.mem_univ z)
  · rw [View.write_of_not_mem f w Finset.univ (by rwa [View.setOn_univ])]
    exact View.write_of_not_mem (v := v.slice (Rect.whole s)) f w Finset.univ (by rwa [View.setOn_univ, hset])

/-- ONE CHUNK WRITTEN OUT: with the rows below `b` done, the copy of a row scratch that holds rows `b … b + 63` makes
    those below `b + 64` done. -/
theorem out_step (G : S8192x1024.Idx → Elt F .f32) (lo b : ℕ) (f : S8192x1024.Idx → Elt F .f32) (w : S64x1024.Idx → Elt F .f32)
    {o : Fin 2 → ℕ} (h : ∀ a, o a + S64x1024.size a ≤ S8192x1024.size a) (e : o = ![b, 0])
    (hw : ∀ (z : S64x1024.Idx) (h : b + (z 0).val < 8192), w z = G (ix2 ⟨b + (z 0).val, h⟩ (z 1)))
    (hf : OutDone G lo b f) : OutDone G lo (b + 64) ((outMem o h).view.write (Elt F) f w Finset.univ) := by
  intro x hlo hx
  subst e
  by_cases hlt : (x 0).val < b
  · rw [View.write_of_not_mem]
    · exact hf x hlo hlt
    · rw [View.setOn_univ, mem_outMem]
      intro hm
      have := (hm 0).1
      simp at this
      omega
  · have hx0 : (x 0).val - b < 64 := by omega
    have hx8 : (x 0).val < 8192 := (x 0).isLt
    have hz : (outMem _ h).view.emb (ix2 ⟨(x 0).val - b, hx0⟩ (x 1)) = x := by
      funext a
      apply Fin.ext
      rw [outMem_emb]
      match a with
      | 0 => show b + ((x 0).val - b) = (x 0).val; omega
      | 1 => show 0 + (x 1).val = (x 1).val; omega
    conv_lhs => rw [← hz]
    rw [View.write_emb_of_mem _ _ (Finset.mem_univ _), cast_eq, hw _ (by show b + ((x 0).val - b) < 8192; omega)]
    congr 1
    funext a
    apply Fin.ext
    match a with
    | 0 => show b + ((x 0).val - b) = (x 0).val; omega
    | 1 => rfl

/-- The row scratch, its columns all done over a chunk of the first list, holds the result's rows. -/
theorem chunk0 (y : S32768x1024.Idx → Elt F .f32) (q0 q1 : S4096.Idx → BitVec 32) {b : ℕ} (hb : b + 64 ≤ 4096) {q : S64.Idx → BitVec 32} (hq : ListAt q0 b q)
    {f : S64x1024.Idx → Elt F .f32} (hf : ColsDone y q 1024 f) (z : S64x1024.Idx) (h : b + (z 0).val < 8192) :
    f z = gVal y q0 q1 (ix2 ⟨b + (z 0).val, h⟩ (z 1)) := by
  have h0 : (z 0).val < 64 := (z 0).isLt
  have hlt : b + (z 0).val < 4096 := by omega
  rw [hf z (z 1).isLt, hq (z 0) hlt]
  unfold gVal
  rw [dif_pos (show ((ix2 (⟨b + (z 0).val, h⟩ : Fin 8192) (z 1) : S8192x1024.Idx) 0).val < 4096 from hlt)]

/-- The same over the second list, 4096 rows below. -/
theorem chunk1 (y : S32768x1024.Idx → Elt F .f32) (q0 q1 : S4096.Idx → BitVec 32) {b : ℕ} (hb : b + 64 ≤ 4096) {q : S64.Idx → BitVec 32} (hq : ListAt q1 b q)
    {f : S64x1024.Idx → Elt F .f32} (hf : ColsDone y q 1024 f) (z : S64x1024.Idx) (h : 4096 + b + (z 0).val < 8192) :
    f z = gVal y q0 q1 (ix2 ⟨4096 + b + (z 0).val, h⟩ (z 1)) := by
  have h0 : (z 0).val < 64 := (z 0).isLt
  have hlt : b + (z 0).val < 4096 := by omega
  have hge : ¬ 4096 + b + (z 0).val < 4096 := by omega
  rw [hf z (z 1).isLt, hq (z 0) hlt]
  unfold gVal
  rw [dif_neg (show ¬ ((ix2 (⟨4096 + b + (z 0).val, h⟩ : Fin 8192) (z 1) : S8192x1024.Idx) 0).val < 4096 from hge)]
  have e : b + (z 0).val = 4096 + b + (z 0).val - 4096 := by omega
  simp only [e]

end Cert.Proof.Gather
-- ==== Proof.Tile.lean ====
/-
  One tile of the SparseCore call: subcore `(c, s)` reads its 256 positions in four chunks of 64 (core 0 from `p0`, core 1
  from `p1`), gathers the rows of `ys` they name, 128 columns at a time, and writes them out to its 256 rows of the
  result. `tile_body` is the run with its value: the tile's rows end at `gY`.
-/
module

public import proofs.«01_k».proof.Proof.Rows

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (Y : S32768x1024.Idx → Elt F .f32)

/-- Rows `lo … hi - 1` of the result, as a set of its elements. -/
def rowSet (lo hi : ℕ) : Finset S8192x1024.Idx := Finset.univ.filter fun x => lo ≤ (x 0).val ∧ (x 0).val < hi

section Tile

variable (d : Dev nD) (L : grid1.Coords)

abbrev cV (L : grid1.Coords) : Fin τ.nSC := (L 0).castLE hcore1
abbrev jV (L : grid1.Coords) : Fin τ.nSub := (L 1).castLE hsub1
/-- The tile's thread. -/
abbrev thr (d : Dev nD) (L : grid1.Coords) : Thread nD τ := V d (cV L) (jV L)

/-- The tile's rows of the result: 256 rows, core 0's below 4096, core 1's above. -/
def tileLo (L : grid1.Coords) : ℕ := 4096 * (L 0).val + 256 * (L 1).val
abbrev tileSet (L : grid1.Coords) : Finset S8192x1024.Idx := rowSet (tileLo L) (tileLo L + 256)

theorem pts_y (q : PosShare TreeShare) (f : Buf (Elt F) (yLoc d)) : (yV.view.loc (thr d L) ↦{q} f : sProp 𝕄) = yLoc d ↦{q} f := rfl
theorem pts_p0 (q : PosShare TreeShare) (f : Buf (Elt F) (p0Loc d)) : (p0V.view.loc (thr d L) ↦{q} f : sProp 𝕄) = p0Loc d ↦{q} f := rfl
theorem pts_p1 (q : PosShare TreeShare) (f : Buf (Elt F) (p1Loc d)) : (p1V.view.loc (thr d L) ↦{q} f : sProp 𝕄) = p1Loc d ↦{q} f := rfl
theorem pts_g (I : Finset S8192x1024.Idx) (f : Buf (Elt F) (gLoc d)) : (gV.view.loc (thr d L) ↦[I]{fullShare} f : sProp 𝕄) = gLoc d ↦[I]{fullShare} f := rfl
theorem pts_r (f : Buf (Elt F) ((thr d L).loc cc1_scratch0)) : (rV.view.loc (thr d L) ↦{fullShare} f : sProp 𝕄) = (thr d L).loc cc1_scratch0 ↦{fullShare} f := rfl
theorem pts_s (f : Buf (Elt F) ((thr d L).loc cc1_scratch1)) : (sV.view.loc (thr d L) ↦{fullShare} f : sProp 𝕄) = (thr d L).loc cc1_scratch1 ↦{fullShare} f := rfl

abbrev cell (s : DmaSem sig) : GSem nD τ sig := (thr d L, .dma s)

/-- The tile's five DMA semaphores are among its own cells, and the rest. -/
theorem ownSems0_V :
    (ownSems0 (thr d L) : sProp 𝕄)
      = iprop(semVal (cell d L cc1_scratch2.sem) 0 ∗ semVal (cell d L cc1_scoped0.sem) 0 ∗ semVal (cell d L cc1_scoped1.sem) 0 ∗ semVal (cell d L cc1_scoped2.sem) 0 ∗ semVal (cell d L cc1_scoped3.sem) 0
          ∗ bigSep ((((((ownCells (thr d L)).erase (cell d L cc1_scratch2.sem)).erase (cell d L cc1_scoped0.sem)).erase (cell d L cc1_scoped1.sem)).erase (cell d L cc1_scoped2.sem)).erase (cell d L cc1_scoped3.sem)) fun g => semVal g 0) := by
  have hm : ∀ s : DmaSem sig, (SemLoc.dma s : SemLoc sig).isScoped .scVector = true → cell d L s ∈ ownCells (thr d L) := fun s h => mem_ownCells.mpr ⟨rfl, h⟩
  have hne : ∀ s t : DmaSem sig, s ≠ t → cell d L s ≠ cell d L t := fun s t h e => h (by injection (congrArg Prod.snd e))
  unfold SparseCore.Cfg.ownSems0
  rw [SparseCore.bigSep_erase' (hm cc1_scratch2.sem (by decide)),
    SparseCore.bigSep_erase' (Finset.mem_erase.mpr ⟨hne cc1_scoped0.sem _ (by decide), hm cc1_scoped0.sem (by decide)⟩),
    SparseCore.bigSep_erase' (Finset.mem_erase.mpr ⟨hne cc1_scoped1.sem _ (by decide), Finset.mem_erase.mpr ⟨hne cc1_scoped1.sem _ (by decide), hm cc1_scoped1.sem (by decide)⟩⟩),
    SparseCore.bigSep_erase' (Finset.mem_erase.mpr ⟨hne cc1_scoped2.sem _ (by decide), Finset.mem_erase.mpr ⟨hne cc1_scoped2.sem _ (by decide), Finset.mem_erase.mpr ⟨hne cc1_scoped2.sem _ (by decide), hm cc1_scoped2.sem (by decide)⟩⟩⟩),
    SparseCore.bigSep_erase' (Finset.mem_erase.mpr ⟨hne cc1_scoped3.sem _ (by decide), Finset.mem_erase.mpr ⟨hne cc1_scoped3.sem _ (by decide), Finset.mem_erase.mpr ⟨hne cc1_scoped3.sem _ (by decide), Finset.mem_erase.mpr ⟨hne cc1_scoped3.sem _ (by decide), hm cc1_scoped3.sem (by decide)⟩⟩⟩⟩)]

/-- The two scratch buffers are among the tile's own, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Between two steps of the gather: the first `128 j` columns of the row scratch done. -/
def colInv (O : CellTallies nD τ sig (HIx 1)) (W : Waits sig (HIx 1)) (qy : PosShare TreeShare) (q : Buf (Elt F) ((thr d L).loc cc1_scratch1)) (j : ℕ) (_ : PUnit) : sProp 𝕄 :=
  iprop(Transfers.MayWaits (thr d L) (none : HIx 1) O
    ∗ (yV.view.loc (thr d L) ↦{qy} Y)
    ∗ (sV.view.loc (thr d L) ↦{fullShare} q)
    ∗ (∃ f, ⌜ColsDone (F := F) Y q (128 * j) f⌝ ∗ rV.view.loc (thr d L) ↦{fullShare} f)
    ∗ semVal (cell d L cc1_scratch2.sem) 0
    ∗ ∃ W', ⌜∀ p ∈ W', p ∈ W ∨ p.2 = none⌝ ∗ owes (thr d L) O W')

/-- One step of the gather's loop in core 0's branch. -/
theorem col_loop1 (h1 : k1_cond1 L = 1#1) (O : CellTallies nD τ sig (HIx 1)) (W : Waits sig (HIx 1)) (qy : PosShare TreeShare) (q : Buf (Elt F) ((thr d L).loc cc1_scratch1))
    (hin : ∀ x, (sV.view.read (Elt F) q x : BitVec 32).toNat < S32768x128.size gathers_S32768x128_S64x128.axis) (t : Fin k1_t2_loop.trips) :
    colInv Y d L O W qy q t.val ⟨⟩ ⊢ wp frame (wpE (defs₀ (F := F)) 𝒱₀ (thr d L) none) Set.univ
      (k1_t2_body L yV (Memref.isWhole_whole _) p0V (Memref.isWhole_whole _) p1V (Memref.isWhole_whole _) gV (Memref.isWhole_whole _) rV (Memref.isWhole_whole _) sV (Memref.isWhole_whole _) cc1_scratch2 cc1_scoped0 cc1_scoped1 cc1_scoped2 cc1_scoped3 h1 t ⟨⟩)
      fun s => colInv Y d L O W qy q (t.val + 1) s := by
  unfold colInv k1_t2_body
  iintro ⟨Hmw, Hy, Hs, ⟨%f, %hf, Hr⟩, Hsem, %W', %hW', HO⟩
  sl_exec
  sl_step
  isplitl [Hmw]; · iexact Hmw
  isplitl [Hy]; · iexact Hy
  isplitl [Hs]; · iexact Hs
  isplitl [Hr]
  · iexists _
    isplitr
    swap; · iexact Hr
    ipureintro
    exact cols_step (F := F) Y q t.val f _ (k1_off2_eq t) _ (k1_off3_eq t) rfl hin hf
  isplitl [Hsem]; · iexact Hsem
  iexists _; isplitr
  swap; · iexact HO
  ipureintro; intro p hp
  rcases Finset.mem_insert.mp hp with hp | hp
  · exact .inr (hp ▸ rfl)
  · exact hW' p hp

/-- One step of the gather's loop in core 1's branch. -/
theorem col_loop2 (h1 : k1_cond2 L = 1#1) (O : CellTallies nD τ sig (HIx 1)) (W : Waits sig (HIx 1)) (qy : PosShare TreeShare) (q : Buf (Elt F) ((thr d L).loc cc1_scratch1))
    (hin : ∀ x, (sV.view.read (Elt F) q x : BitVec 32).toNat < S32768x128.size gathers_S32768x128_S64x128.axis) (t : Fin k1_t4_loop.trips) :
    colInv Y d L O W qy q t.val ⟨⟩ ⊢ wp frame (wpE (defs₀ (F := F)) 𝒱₀ (thr d L) none) Set.univ
      (k1_t4_body L yV (Memref.isWhole_whole _) p0V (Memref.isWhole_whole _) p1V (Memref.isWhole_whole _) gV (Memref.isWhole_whole _) rV (Memref.isWhole_whole _) sV (Memref.isWhole_whole _) cc1_scratch2 cc1_scoped0 cc1_scoped1 cc1_scoped2 cc1_scoped3 h1 t ⟨⟩)
      fun s => colInv Y d L O W qy q (t.val + 1) s := by
  unfold colInv k1_t4_body
  iintro ⟨Hmw, Hy, Hs, ⟨%f, %hf, Hr⟩, Hsem, %W', %hW', HO⟩
  sl_exec
  sl_step
  isplitl [Hmw]; · iexact Hmw
  isplitl [Hy]; · iexact Hy
  isplitl [Hs]; · iexact Hs
  isplitl [Hr]
  · iexists _
    isplitr
    swap; · iexact Hr
    ipureintro
    exact cols_step (F := F) Y q t.val f _ (k1_off6_eq t) _ (k1_off7_eq t) rfl hin hf
  isplitl [Hsem]; · iexact Hsem
  iexists _; isplitr
  swap; · iexact HO
  ipureintro; intro p hp
  rcases Finset.mem_insert.mp hp with hp | hp
  · exact .inr (hp ▸ rfl)
  · exact hW' p hp

/-- A chunk of the tile's rows, split off. -/
theorem out_split {o : Fin 2 → ℕ} (h : ∀ a, o a + S64x1024.size a ≤ S8192x1024.size a) {I : Finset S8192x1024.Idx} (hsub : (outMem o h).view.set ⊆ I) (f : Buf (Elt F) (gLoc d)) :
    (gV.view.loc (thr d L) ↦[I]{fullShare} f : sProp 𝕄)
      ⊢ iprop(((outMem o h).view.loc (thr d L) ↦[(outMem o h).view.set]{fullShare} f) ∗ (gV.view.loc (thr d L) ↦[I \ (outMem o h).view.set]{fullShare} f)) :=
  (pointsTo_split_subset (ℓ := gLoc d) (q := fullShare) (f := f) hsub).1

/-- The chunk written, joined with the rest. -/
theorem out_join {o : Fin 2 → ℕ} (h : ∀ a, o a + S64x1024.size a ≤ S8192x1024.size a) {I : Finset S8192x1024.Idx} (hsub : (outMem o h).view.set ⊆ I) (f : Buf (Elt F) (gLoc d)) (w : S64x1024.Idx → Elt F .f32) :
    iprop(((outMem o h).view.loc (thr d L) ↦[(outMem o h).view.set]{fullShare} (outMem o h).view.write (Elt F) f w Finset.univ) ∗ (gV.view.loc (thr d L) ↦[I \ (outMem o h).view.set]{fullShare} f))
      ⊢ (gV.view.loc (thr d L) ↦[I]{fullShare} (outMem o h).view.write (Elt F) f w Finset.univ : sProp 𝕄) := by
  have e : (gLoc d ↦[I \ (outMem o h).view.set]{fullShare} f : sProp 𝕄) = gLoc d ↦[I \ (outMem o h).view.set]{fullShare} (outMem o h).view.write (Elt F) f w Finset.univ :=
    pointsTo_congr fun i hi => (View.write_of_not_mem (v := (outMem o h).view) f w Finset.univ fun hm =>
      (Finset.mem_sdiff.mp hi).2 (by rwa [View.setOn_univ] at hm)).symm
  exact BI.Entails.trans (BI.sep_mono (BI.Entails.refl _) (Entails.of_eq e)) (pointsTo_split_subset (ℓ := gLoc d) (q := fullShare) (f := (outMem o h).view.write (Elt F) f w Finset.univ) hsub).2

/-- Between two chunks of core 0's branch: the tile's rows below `64 t` of its own done. -/
def outInv1 (O : CellTallies nD τ sig (HIx 1)) (W : Waits sig (HIx 1)) (qy qp : PosShare TreeShare) (t : ℕ) (_ : PUnit) : sProp 𝕄 :=
  iprop(Transfers.MayWaits (thr d L) (none : HIx 1) O
    ∗ (yV.view.loc (thr d L) ↦{qy} Y)
    ∗ (p0V.view.loc (thr d L) ↦{qp} m (p0Loc d))
    ∗ (∃ f, sV.view.loc (thr d L) ↦{fullShare} f)
    ∗ (∃ f, rV.view.loc (thr d L) ↦{fullShare} f)
    ∗ (∃ f, ⌜OutDone (gY m d Y) (tileLo L) (tileLo L + 64 * t) f⌝ ∗ gV.view.loc (thr d L) ↦[tileSet L]{fullShare} f)
    ∗ semVal (cell d L cc1_scratch2.sem) 0 ∗ semVal (cell d L cc1_scoped0.sem) 0 ∗ semVal (cell d L cc1_scoped1.sem) 0
    ∗ ∃ W', ⌜∀ p ∈ W', p ∈ W ∨ p.2 = none⌝ ∗ owes (thr d L) O W')

/-- A chunk lies in the tile's rows. -/
theorem chunk_sub1 (h1 : k1_cond1 L = 1#1) (t : Fin k1_t1_loop.trips) : (outMem (k1_off4 L t) (k1_off4_inb L t h1)).view.set ⊆ tileSet L := by
  intro x hx
  have h0 := ((mem_outMem _ x).mp hx) 0
  have hL : (L 0).val = 0 := (cond1_iff L).mp h1
  have ht : t.val < 4 := trips1 ▸ t.isLt
  rw [off4_eq] at h0
  have h0' : 256 * (L 1).val + 64 * t.val ≤ (x 0).val ∧ (x 0).val < 256 * (L 1).val + 64 * t.val + 64 := h0
  refine Finset.mem_filter.mpr ⟨Finset.mem_univ _, ?_⟩
  unfold tileLo
  omega

/-- One chunk of core 0's branch: the list chunk fetched, its rows gathered, and written out. -/
theorem out_loop1 (hp : PosOK m) (h1 : k1_cond1 L = 1#1) (O : CellTallies nD τ sig (HIx 1)) (W : Waits sig (HIx 1)) (qy qp : PosShare TreeShare) (t : Fin k1_t1_loop.trips) :
    outInv1 m Y d L O W qy qp t.val ⟨⟩ ⊢ wp frame (wpE (defs₀ (F := F)) 𝒱₀ (thr d L) none) Set.univ
      (k1_t1_body L yV (Memref.isWhole_whole _) p0V (Memref.isWhole_whole _) p1V (Memref.isWhole_whole _) gV (Memref.isWhole_whole _) rV (Memref.isWhole_whole _) sV (Memref.isWhole_whole _) cc1_scratch2 cc1_scoped0 cc1_scoped1 cc1_scoped2 cc1_scoped3 h1 t ⟨⟩)
      fun s => outInv1 m Y d L O W qy qp (t.val + 1) s := by
  have hL : (L 0).val = 0 := (cond1_iff L).mp h1
  have ht : t.val < 4 := trips1 ▸ t.isLt
  have hs : (L 1).val < 16 := (L 1).isLt
  unfold outInv1 k1_t1_body
  iintro ⟨Hmw, Hy, Hp, ⟨%fs, Hs⟩, ⟨%fr, Hr⟩, ⟨%fg, %hfg, Hg⟩, Hsem, Hsa, Hsb, %W', %hW', HO⟩
  sl_exec
  have hq : ListAt (m (p0Loc d)) (256 * (L 1).val + 64 * t.val) (View.write (Elt F) sV.view fs (out_loop1.sl.dma0 m d L h1 t) Finset.univ) :=
    listAt_land0 (F := F) (m (p0Loc d)) (k1_off1_inb L t h1) (off1_eq L t) fs
  generalize View.write (Elt F) sV.view fs (out_loop1.sl.dma0 m d L h1 t) Finset.univ = q at hq ⊢
  have hin := list_inb (F := F) (fun j => (hp d j).1) (by omega) hq
  sl_for (colInv Y d L O (insert (SemLoc.dma cc1_scoped0.sem, (default : HIx 1)) W') qy q) $$ [Hmw Hy Hs Hr Hsem HO]
  case region =>
    intro k _
    exact col_loop1 Y d L h1 O _ qy q hin k
  · unfold colInv
    isplitl [Hmw]; · iexact Hmw
    isplitl [Hy]; · iexact Hy
    isplitl [Hs]; · iexact Hs
    isplitl [Hr]
    · iexists fr; isplitr
      · ipureintro; intro x hx; exact absurd hx (Nat.not_lt_zero _)
      · iexact Hr
    isplitl [Hsem]; · iexact Hsem
    iexists _; isplitr
    swap; · iexact HO
    ipureintro; exact fun p hp => .inl hp
  iintro %_ HI
  unfold colInv
  icases HI with ⟨Hmw, Hy, Hs, ⟨%fr', %hfr, Hr⟩, Hsem, %W'', %hW'', HO⟩
  have hfr : ColsDone (F := F) Y q 1024 fr' := by
    rw [show 1024 = 128 * Scf.trips k1_t2_loop.lb k1_t2_loop.ub k1_t2_loop.st from by decide +kernel]; exact hfr
  have hsub := chunk_sub1 L h1 t
  ihave Hg2 := (out_split d L (k1_off4_inb L t h1) hsub fg) $$ Hg
  icases Hg2 with ⟨Hgc, Hgr⟩
  sl_exec
  rw [writes_whole, show out_loop1.sl.dma0_1 (F := F) fr' = fr' from by first | rfl | (show rV.view.read (Elt F) fr' = fr'; exact View.read_whole _ _)]
  have hG : OutDone (gY m d Y) (tileLo L) (tileLo L + 64 * (t.val + 1))
      ((outMem (k1_off4 L t) (k1_off4_inb L t h1)).view.write (Elt F) fg fr' Finset.univ) := by
    have e : tileLo L + 64 * t.val = 256 * (L 1).val + 64 * t.val := by unfold tileLo; omega
    rw [show tileLo L + 64 * (t.val + 1) = 256 * (L 1).val + 64 * t.val + 64 from by omega]
    rw [e] at hfg
    exact out_step (F := F) (gY m d Y) (tileLo L) _ fg fr' (k1_off4_inb L t h1) (off4_eq L t)
      (fun z hz => chunk0 (F := F) Y (m (p0Loc d)) (m (p1Loc d)) (by omega) hq hfr z hz) hfg
  ihave Hg := (out_join d L (k1_off4_inb L t h1) hsub fg fr') $$ [Hgc Hgr]
  · isplitl [Hgc] <;> iassumption
  sl_step
  isplitl [Hmw]; · iexact Hmw
  isplitl [Hy]; · iexact Hy
  isplitl [Hp]; · iexact Hp
  isplitl [Hs]; · iexists _; iexact Hs
  isplitl [Hr]; · iexists _; iexact Hr
  isplitl [Hg]
  · iexists _; isplitr
    swap; · iexact Hg
    ipureintro; exact hG
  isplitl [Hsem]; · iexact Hsem
  isplitl [Hsa]; · iexact Hsa
  isplitl [Hsb]; · iexact Hsb
  iexists _; isplitr
  swap; · iexact HO
  ipureintro; intro p hp
  rcases Finset.mem_insert.mp hp with hp | hp
  · exact .inr (hp ▸ rfl)
  rcases hW'' p hp with hp | hp
  · rcases Finset.mem_insert.mp hp with hp | hp
    · exact .inr (hp ▸ rfl)
    · exact hW' p hp
  · exact .inr hp

/-- Between two chunks of core 1's branch: the tile's rows below `64 t` of its own done. -/
def outInv2 (O : CellTallies nD τ sig (HIx 1)) (W : Waits sig (HIx 1)) (qy qp : PosShare TreeShare) (t : ℕ) (_ : PUnit) : sProp 𝕄 :=
  iprop(Transfers.MayWaits (thr d L) (none : HIx 1) O
    ∗ (yV.view.loc (thr d L) ↦{qy} Y)
    ∗ (p1V.view.loc (thr d L) ↦{qp} m (p1Loc d))
    ∗ (∃ f, sV.view.loc (thr d L) ↦{fullShare} f)
    ∗ (∃ f, rV.view.loc (thr d L) ↦{fullShare} f)
    ∗ (∃ f, ⌜OutDone (gY m d Y) (tileLo L) (tileLo L + 64 * t) f⌝ ∗ gV.view.loc (thr d L) ↦[tileSet L]{fullShare} f)
    ∗ semVal (cell d L cc1_scratch2.sem) 0 ∗ semVal (cell d L cc1_scoped2.sem) 0 ∗ semVal (cell d L cc1_scoped3.sem) 0
    ∗ ∃ W', ⌜∀ p ∈ W', p ∈ W ∨ p.2 = none⌝ ∗ owes (thr d L) O W')

/-- A chunk lies in the tile's rows. -/
theorem chunk_sub2 (h1 : k1_cond2 L = 1#1) (t : Fin k1_t3_loop.trips) : (outMem (k1_off8 L t) (k1_off8_inb L t h1)).view.set ⊆ tileSet L := by
  intro x hx
  have h0 := ((mem_outMem _ x).mp hx) 0
  have hL : (L 0).val = 1 := (cond2_iff L).mp h1
  have ht : t.val < 4 := trips3 ▸ t.isLt
  rw [off8_eq] at h0
  have h0' : 4096 + (256 * (L 1).val + 64 * t.val) ≤ (x 0).val ∧ (x 0).val < 4096 + (256 * (L 1).val + 64 * t.val) + 64 := h0
  refine Finset.mem_filter.mpr ⟨Finset.mem_univ _, ?_⟩
  unfold tileLo
  omega

/-- One chunk of core 1's branch: the list chunk fetched, its rows gathered, and written out. -/
theorem out_loop2 (hp : PosOK m) (h1 : k1_cond2 L = 1#1) (O : CellTallies nD τ sig (HIx 1)) (W : Waits sig (HIx 1)) (qy qp : PosShare TreeShare) (t : Fin k1_t3_loop.trips) :
    outInv2 m Y d L O W qy qp t.val ⟨⟩ ⊢ wp frame (wpE (defs₀ (F := F)) 𝒱₀ (thr d L) none) Set.univ
      (k1_t3_body L yV (Memref.isWhole_whole _) p0V (Memref.isWhole_whole _) p1V (Memref.isWhole_whole _) gV (Memref.isWhole_whole _) rV (Memref.isWhole_whole _) sV (Memref.isWhole_whole _) cc1_scratch2 cc1_scoped0 cc1_scoped1 cc1_scoped2 cc1_scoped3 h1 t ⟨⟩)
      fun s => outInv2 m Y d L O W qy qp (t.val + 1) s := by
  have hL : (L 0).val = 1 := (cond2_iff L).mp h1
  have ht : t.val < 4 := trips3 ▸ t.isLt
  have hs : (L 1).val < 16 := (L 1).isLt
  unfold outInv2 k1_t3_body
  iintro ⟨Hmw, Hy, Hp, ⟨%fs, Hs⟩, ⟨%fr, Hr⟩, ⟨%fg, %hfg, Hg⟩, Hsem, Hsa, Hsb, %W', %hW', HO⟩
  sl_exec
  have hq : ListAt (m (p1Loc d)) (256 * (L 1).val + 64 * t.val) (View.write (Elt F) sV.view fs (out_loop2.sl.dma0 m d L h1 t) Finset.univ) :=
    listAt_land1 (F := F) (m (p1Loc d)) (k1_off5_inb L t h1) (off5_eq L t) fs
  generalize View.write (Elt F) sV.view fs (out_loop2.sl.dma0 m d L h1 t) Finset.univ = q at hq ⊢
  have hin := list_inb (F := F) (fun j => (hp d j).2) (by omega) hq
  sl_for (colInv Y d L O (insert (SemLoc.dma cc1_scoped2.sem, (default : HIx 1)) W') qy q) $$ [Hmw Hy Hs Hr Hsem HO]
  case region =>
    intro k _
    exact col_loop2 Y d L h1 O _ qy q hin k
  · unfold colInv
    isplitl [Hmw]; · iexact Hmw
    isplitl [Hy]; · iexact Hy
    isplitl [Hs]; · iexact Hs
    isplitl [Hr]
    · iexists fr; isplitr
      · ipureintro; intro x hx; exact absurd hx (Nat.not_lt_zero _)
      · iexact Hr
    isplitl [Hsem]; · iexact Hsem
    iexists _; isplitr
    swap; · iexact HO
    ipureintro; exact fun p hp => .inl hp
  iintro %_ HI
  unfold colInv
  icases HI with ⟨Hmw, Hy, Hs, ⟨%fr', %hfr, Hr⟩, Hsem, %W'', %hW'', HO⟩
  have hfr : ColsDone (F := F) Y q 1024 fr' := by
    rw [show 1024 = 128 * Scf.trips k1_t4_loop.lb k1_t4_loop.ub k1_t4_loop.st from by decide +kernel]; exact hfr
  have hsub := chunk_sub2 L h1 t
  ihave Hg2 := (out_split d L (k1_off8_inb L t h1) hsub fg) $$ Hg
  icases Hg2 with ⟨Hgc, Hgr⟩
  sl_exec
  rw [writes_whole, show out_loop2.sl.dma0_1 (F := F) fr' = fr' from by first | rfl | (show rV.view.read (Elt F) fr' = fr'; exact View.read_whole _ _)]
  have hG : OutDone (gY m d Y) (tileLo L) (tileLo L + 64 * (t.val + 1))
      ((outMem (k1_off8 L t) (k1_off8_inb L t h1)).view.write (Elt F) fg fr' Finset.univ) := by
    have e : tileLo L + 64 * t.val = 4096 + (256 * (L 1).val + 64 * t.val) := by unfold tileLo; omega
    rw [show tileLo L + 64 * (t.val + 1) = 4096 + (256 * (L 1).val + 64 * t.val) + 64 from by omega]
    rw [e] at hfg
    exact out_step (F := F) (gY m d Y) (tileLo L) _ fg fr' (k1_off8_inb L t h1) (off8_eq L t)
      (fun z hz => chunk1 (F := F) Y (m (p0Loc d)) (m (p1Loc d)) (by omega) hq hfr z hz) hfg
  ihave Hg := (out_join d L (k1_off8_inb L t h1) hsub fg fr') $$ [Hgc Hgr]
  · isplitl [Hgc] <;> iassumption
  sl_step
  isplitl [Hmw]; · iexact Hmw
  isplitl [Hy]; · iexact Hy
  isplitl [Hp]; · iexact Hp
  isplitl [Hs]; · iexists _; iexact Hs
  isplitl [Hr]; · iexists _; iexact Hr
  isplitl [Hg]
  · iexists _; isplitr
    swap; · iexact Hg
    ipureintro; exact hG
  isplitl [Hsem]; · iexact Hsem
  isplitl [Hsa]; · iexact Hsa
  isplitl [Hsb]; · iexact Hsb
  iexists _; isplitr
  swap; · iexact HO
  ipureintro; intro p hp
  rcases Finset.mem_insert.mp hp with hp | hp
  · exact .inr (hp ▸ rfl)
  rcases hW'' p hp with hp | hp
  · rcases Finset.mem_insert.mp hp with hp | hp
    · exact .inr (hp ▸ rfl)
    · exact hW' p hp
  · exact .inr hp

/-- What a tile takes: shares of `ys`, `p0`, `p1`, its rows of the result. -/
abbrev tileIn (qy q0 q1 : PosShare TreeShare) : sProp 𝕄 :=
  iprop((yLoc d ↦{qy} Y) ∗ (p0Loc d ↦{q0} m (p0Loc d)) ∗ (p1Loc d ↦{q1} m (p1Loc d)) ∗ (gLoc d ↦[tileSet L]{fullShare} m (gLoc d)))
/-- What it brings back: the same, its rows at their value. -/
abbrev tileOut (qy q0 q1 : PosShare TreeShare) : sProp 𝕄 :=
  iprop((yLoc d ↦{qy} Y) ∗ (p0Loc d ↦{q0} m (p0Loc d)) ∗ (p1Loc d ↦{q1} m (p1Loc d)) ∗ (gLoc d ↦[tileSet L]{fullShare} gY m d Y))

/-- THE TILE: from its shares of `ys`, `p0` and `p1` and its 256 rows of the result, the shares back and the rows at
    their value, its scratch and its semaphores as they were. -/
theorem tile_body (hp : PosOK m) (O : CellTallies nD τ sig (HIx 1)) (W : Waits sig (HIx 1)) (hO : ∀ g, O g none = 0) (qy q0 q1 : PosShare TreeShare) :
    iprop(levAts (K (F := F)).L (K (F := F)).lev ∗ emp
        ∗ tileIn m Y d L qy q0 q1
        ∗ scopedBufs (thr d L) ∗ scopedSems0 (thr d L) ∗ owes (thr d L) O W)
      ⊢ wp frame (wpE (defs₀ (F := F)) 𝒱₀ (thr d L) none) Set.univ
          (cc1_sc_gather L yV (Memref.isWhole_whole _) p0V (Memref.isWhole_whole _) p1V (Memref.isWhole_whole _) gV (Memref.isWhole_whole _) rV (Memref.isWhole_whole _) sV (Memref.isWhole_whole _) cc1_scratch2 cc1_scoped0 cc1_scoped1 cc1_scoped2 cc1_scoped3)
          fun _ => iprop(tileOut m Y d L qy q0 q1
            ∗ scopedBufs (thr d L) ∗ scopedSems0 (thr d L)
            ∗ ∃ W', ⌜∀ p ∈ W', p ∈ W ∨ p.2 = none⌝ ∗ owes (thr d L) O W') := by
  simp only [cc1_sc_gather_eq_skeleton]; unfold cc1_sc_gather_skel
  rw [(K (F := F)).scopedBufs_V facts d (cV L) (jV L), SparseCore.Cfg.scopedSems0_V (Val := Elt F) d (cV L) (jV L), ownSems0_V, ownBufs_V]
  iintro ⟨#Hlv, -, ⟨Hy, Hp0, Hp1, Hg⟩, ⟨⟨%fr, Hr⟩, ⟨%fs, Hs⟩, Hbufs⟩, ⟨Hsem, Hs0, Hs1, Hs2, Hs3, Hsems⟩, HO⟩
  ihave Hmw := (show levAts (K (F := F)).L (K (F := F)).lev ⊢ Transfers.MayWaits (thr d L) (default : HIx 1) O from
    (K (F := F)).mayWaits_none (thr := thr d L) hO) $$ Hlv
  ihave Hy := (Entails.of_eq (pts_y (F := F) d L _ _).symm) $$ Hy
  ihave Hp0 := (Entails.of_eq (pts_p0 (F := F) d L _ _).symm) $$ Hp0
  ihave Hp1 := (Entails.of_eq (pts_p1 (F := F) d L _ _).symm) $$ Hp1
  ihave Hg := (Entails.of_eq (pts_g (F := F) d L _ _).symm) $$ Hg
  ihave Hs := (Entails.of_eq (pts_s (F := F) d L _).symm) $$ Hs
  ihave Hr := (Entails.of_eq (pts_r (F := F) d L _).symm) $$ Hr
  have hL : (L 0).val < 2 := (L 0).isLt
  by_cases hc : (L 0).val = 0
  · have h1 : k1_cond1 L = 1#1 := (cond1_iff L).mpr hc
    have h2 : ¬ k1_cond2 L = 1#1 := fun h => by have := (cond2_iff L).mp h; omega
    rw [dif_pos h1, dif_neg h2]
    sl_exec
    sl_for (outInv1 m Y d L O W qy q0) $$ [Hmw Hy Hp0 Hs Hr Hg Hsem Hs0 Hs1 HO]
    case region =>
      intro k _
      exact out_loop1 m Y d L hp h1 O W qy _ k
    · unfold outInv1
      isplitl [Hmw]; · iexact Hmw
      isplitl [Hy]; · iexact Hy
      isplitl [Hp0]; · iexact Hp0
      isplitl [Hs]; · iexists _; iexact Hs
      isplitl [Hr]; · iexists _; iexact Hr
      isplitl [Hg]
      · iexists _; isplitr
        swap; · iexact Hg
        ipureintro; intro x hlo hx; exact absurd hx (by omega)
      isplitl [Hsem]; · iexact Hsem
      isplitl [Hs0]; · iexact Hs0
      isplitl [Hs1]; · iexact Hs1
      iexists W; isplitr
      swap; · iexact HO
      ipureintro; exact fun p hp => .inl hp
    iintro %_ HI
    unfold outInv1
    icases HI with ⟨-, Hy, Hp0, ⟨%fs', Hs⟩, ⟨%fr', Hr⟩, ⟨%fg, %hfg, Hg⟩, Hsem, Hs0, Hs1, %W', %hW', HO⟩
    have hG : ∀ i ∈ tileSet L, fg i = gY m d Y i := fun i hi => by
      have h := (Finset.mem_filter.mp hi).2
      exact hfg i h.1 (lt_of_lt_of_eq h.2 (congrArg (fun n => tileLo L + 64 * n) (show 4 = Scf.trips k1_t1_loop.lb k1_t1_loop.ub k1_t1_loop.st by decide +kernel)))
    sl_exec
    sl_step
    isplitl [Hy Hp0 Hp1 Hg]
    · isplitl [Hy]; · iexact Hy
      isplitl [Hp0]; · iexact Hp0
      isplitl [Hp1]; · iexact Hp1
      iapply (Entails.of_eq (show (gV.view.loc (thr d L) ↦[tileSet L]{fullShare} fg : sProp 𝕄) = gLoc d ↦[tileSet L]{fullShare} gY m d Y from pointsTo_congr hG)); iexact Hg
    isplitl [Hs Hr Hbufs]
    · isplitl [Hr]; · iexists _; iexact Hr
      isplitl [Hs]; · iexists _; iexact Hs
      iexact Hbufs
    isplitl [Hsem Hs0 Hs1 Hs2 Hs3 Hsems]
    · isplitl [Hsem]; · iexact Hsem
      isplitl [Hs0]; · iexact Hs0
      isplitl [Hs1]; · iexact Hs1
      isplitl [Hs2]; · iexact Hs2
      isplitl [Hs3]; · iexact Hs3
      iexact Hsems
    iexists W'; isplitr
    · ipureintro; exact hW'
    · iexact HO
  · have h1 : ¬ k1_cond1 L = 1#1 := fun h => hc ((cond1_iff L).mp h)
    have h2 : k1_cond2 L = 1#1 := (cond2_iff L).mpr (by omega)
    rw [dif_neg h1, dif_pos h2]
    sl_exec
    sl_for (outInv2 m Y d L O W qy q1) $$ [Hmw Hy Hp1 Hs Hr Hg Hsem Hs2 Hs3 HO]
    case region =>
      intro k _
      exact out_loop2 m Y d L hp h2 O W qy _ k
    · unfold outInv2
      isplitl [Hmw]; · iexact Hmw
      isplitl [Hy]; · iexact Hy
      isplitl [Hp1]; · iexact Hp1
      isplitl [Hs]; · iexists _; iexact Hs
      isplitl [Hr]; · iexists _; iexact Hr
      isplitl [Hg]
      · iexists _; isplitr
        swap; · iexact Hg
        ipureintro; intro x hlo hx; exact absurd hx (by omega)
      isplitl [Hsem]; · iexact Hsem
      isplitl [Hs2]; · iexact Hs2
      isplitl [Hs3]; · iexact Hs3
      iexists W; isplitr
      swap; · iexact HO
      ipureintro; exact fun p hp => .inl hp
    iintro %_ HI
    unfold outInv2
    icases HI with ⟨-, Hy, Hp1, ⟨%fs', Hs⟩, ⟨%fr', Hr⟩, ⟨%fg, %hfg, Hg⟩, Hsem, Hs2, Hs3, %W', %hW', HO⟩
    have hG : ∀ i ∈ tileSet L, fg i = gY m d Y i := fun i hi => by
      have h := (Finset.mem_filter.mp hi).2
      exact hfg i h.1 (lt_of_lt_of_eq h.2 (congrArg (fun n => tileLo L + 64 * n) (show 4 = Scf.trips k1_t3_loop.lb k1_t3_loop.ub k1_t3_loop.st by decide +kernel)))
    sl_exec
    sl_step
    isplitl [Hy Hp0 Hp1 Hg]
    · isplitl [Hy]; · iexact Hy
      isplitl [Hp0]; · iexact Hp0
      isplitl [Hp1]; · iexact Hp1
      iapply (Entails.of_eq (show (gV.view.loc (thr d L) ↦[tileSet L]{fullShare} fg : sProp 𝕄) = gLoc d ↦[tileSet L]{fullShare} gY m d Y from pointsTo_congr hG)); iexact Hg
    isplitl [Hs Hr Hbufs]
    · isplitl [Hr]; · iexists _; iexact Hr
      isplitl [Hs]; · iexists _; iexact Hs
      iexact Hbufs
    isplitl [Hsem Hs0 Hs1 Hs2 Hs3 Hsems]
    · isplitl [Hsem]; · iexact Hsem
      isplitl [Hs0]; · iexact Hs0
      isplitl [Hs1]; · iexact Hs1
      isplitl [Hs2]; · iexact Hs2
      isplitl [Hs3]; · iexact Hs3
      iexact Hsems
    iexists W'; isplitr
    · ipureintro; exact hW'
    · iexact HO

end Tile

end Cert.Proof.Gather
-- ==== Proof.Obl.lean ====
/-
  The SparseCore call's obligations: what the call takes and hands back for each core and each tile, that a tile's program
  does its part (`tileObl`), that a core's part is its sixteen tiles' parts (`vecSplit`), and that the arrays whole are
  the two cores' parts (`arrays_cores`). The positions and `ys` are only read: they are dealt out as shares. The result is
  dealt out by rows.
-/
module

public import proofs.«01_k».proof.Proof.Tile

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (R : (d : Dev nD) → Buf (Elt F) (yLoc d) → Prop)

/-! ## The parts -/

/-- The tile at core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- A core's share of an array all tiles read. -/
abbrev qC (c : Fin 2) : PosShare TreeShare := pieceOf fullShare 2 (by decide) c
/-- A tile's share of it. -/
abbrev qT (c : Fin 2) (s : Fin 16) : PosShare TreeShare := pieceOf (qC c) 16 (by decide) s
/-- A core's rows of the result. -/
abbrev coreSet (c : Fin 2) : Finset S8192x1024.Idx := rowSet (4096 * c.val) (4096 * c.val + 4096)

/-- A value an element of the result may have: the one gathered from some contents `ys` may have. -/
abbrev Good (d : Dev nD) (i : S8192x1024.Idx) (v : Elt F .f32) : Prop := ∃ Y, R d Y ∧ v = gY m d Y i

/-- A share of `ys`, at some contents it may have. -/
abbrev yAny (d : Dev nD) (q : PosShare TreeShare) : sProp 𝕄 := iprop(∃ Y : Buf (Elt F) (yLoc d), ⌜R d Y⌝ ∗ yLoc d ↦{q} Y)
/-- The elements `I` of the result, each at a value it may have. -/
abbrev gAny (d : Dev nD) (I : Finset S8192x1024.Idx) : sProp 𝕄 :=
  iprop(∃ f : Buf (Elt F) (gLoc d), ⌜∀ i ∈ I, Good m R d i (f i)⌝ ∗ gLoc d ↦[I]{fullShare} f)

/-- A core's part of the arrays: a share of `ys` and of the positions, its rows of the result. -/
abbrev coreIn (d : Dev nD) (c : Fin 2) : sProp 𝕄 :=
  iprop(yAny R d (qC c) ∗ (p0Loc d ↦{qC c} m (p0Loc d)) ∗ (p1Loc d ↦{qC c} m (p1Loc d)) ∗ gLoc d ↦[coreSet c]{fullShare} m (gLoc d))
/-- What a core hands back: its shares of the positions, its rows of the result gathered. -/
abbrev coreOut (d : Dev nD) (c : Fin 2) : sProp 𝕄 :=
  iprop((p0Loc d ↦{qC c} m (p0Loc d)) ∗ (p1Loc d ↦{qC c} m (p1Loc d)) ∗ gAny m R d (coreSet c))

/-- A tile's part of the arrays. -/
abbrev tIn (d : Dev nD) (c : Fin 2) (s : Fin 16) : sProp 𝕄 :=
  iprop(yAny R d (qT c s) ∗ (p0Loc d ↦{qT c s} m (p0Loc d)) ∗ (p1Loc d ↦{qT c s} m (p1Loc d))
    ∗ gLoc d ↦[tileSet (coordsV c s)]{fullShare} m (gLoc d))
/-- What a tile hands back. -/
abbrev tOut (d : Dev nD) (c : Fin 2) (s : Fin 16) : sProp 𝕄 :=
  iprop((p0Loc d ↦{qT c s} m (p0Loc d)) ∗ (p1Loc d ↦{qT c s} m (p1Loc d)) ∗ gAny m R d (tileSet (coordsV c s)))

/-- What the call's handshakes carry: to a core its part and back, to a tile its part and back; of the contents of `ys`
    only that they satisfy `R` is known. -/
def P : (K (F := F)).Pay (nD := nD) (Val := Elt F) (Name := ℕ) (U := UU) where
  st := fun q d c => match q with | 0 => coreIn m R d (Fin.cast nCore_zero c)
  dn := fun q d c => match q with | 0 => coreOut m R d (Fin.cast nCore_zero c)
  go := fun q d c i => match q with | 0 => tIn m R d (Fin.cast nCore_zero c) (Fin.cast nSub_zero i)
  td := fun q d c i => match q with | 0 => tOut m R d (Fin.cast nCore_zero c) (Fin.cast nSub_zero i)
  x := fun _ _ => iprop(emp)

instance P_storable : (P (F := F) m R).IsStorable where
  st q d c := match q with
    | 0 => (inferInstance : BI.Storable (upEmb : UEmb _ 𝕄) (coreIn m R d (Fin.cast nCore_zero c)))
  dn q d c := match q with
    | 0 => (inferInstance : BI.Storable (upEmb : UEmb _ 𝕄) (coreOut m R d (Fin.cast nCore_zero c)))
  go q d c i := match q with
    | 0 => (inferInstance : BI.Storable (upEmb : UEmb _ 𝕄) (tIn m R d (Fin.cast nCore_zero c) (Fin.cast nSub_zero i)))
  td q d c i := match q with
    | 0 => (inferInstance : BI.Storable (upEmb : UEmb _ 𝕄) (tOut m R d (Fin.cast nCore_zero c) (Fin.cast nSub_zero i)))

/-! ## The rows split -/

theorem mem_rowSet {lo hi : ℕ} {x : S8192x1024.Idx} : x ∈ rowSet lo hi ↔ lo ≤ (x 0).val ∧ (x 0).val < hi := by
  simp [rowSet]

theorem rowSet_disjoint {a b a' b' : ℕ} (h : b ≤ a' ∨ b' ≤ a) : Disjoint (rowSet a b) (rowSet a' b') := by
  rw [Finset.disjoint_left]; intro x hx hx'; rw [mem_rowSet] at hx hx'; omega

theorem tiles_cover (c : Fin 2) : (Finset.univ : Finset (Fin 16)).biUnion (fun s => tileSet (coordsV c s)) = coreSet c := by
  ext x
  simp only [Finset.mem_biUnion, Finset.mem_univ, true_and, mem_rowSet, tileLo]
  constructor
  · rintro ⟨s, h⟩
    have hs : s.val < 16 := s.isLt
    have h1 : 4096 * c.val + 256 * s.val ≤ (x 0).val ∧ (x 0).val < 4096 * c.val + 256 * s.val + 256 := h
    omega
  · intro h
    refine ⟨⟨((x 0).val - 4096 * c.val) / 256, by omega⟩, ?_⟩
    show 4096 * c.val + 256 * (((x 0).val - 4096 * c.val) / 256) ≤ (x 0).val
      ∧ (x 0).val < 4096 * c.val + 256 * (((x 0).val - 4096 * c.val) / 256) + 256
    omega

theorem tiles_disjoint (c : Fin 2) : ∀ i ∈ (Finset.univ : Finset (Fin 16)), ∀ j ∈ (Finset.univ : Finset (Fin 16)), i ≠ j →
    Disjoint (tileSet (coordsV c i)) (tileSet (coordsV c j)) := fun i _ j _ h => by
  have hij : i.val ≠ j.val := fun e => h (Fin.ext e)
  refine rowSet_disjoint ?_
  show 4096 * c.val + 256 * i.val + 256 ≤ 4096 * c.val + 256 * j.val ∨ 4096 * c.val + 256 * j.val + 256 ≤ 4096 * c.val + 256 * i.val
  omega

theorem cores_cover : (Finset.univ : Finset (Fin 2)).biUnion coreSet = Finset.univ := by
  ext x
  simp only [Finset.mem_biUnion, Finset.mem_univ, true_and, mem_rowSet, iff_true]
  have hx : (x 0).val < 8192 := (x 0).isLt
  refine ⟨⟨(x 0).val / 4096, by omega⟩, ?_⟩
  show 4096 * ((x 0).val / 4096) ≤ (x 0).val ∧ (x 0).val < 4096 * ((x 0).val / 4096) + 4096
  omega

theorem cores_disjoint : ∀ i ∈ (Finset.univ : Finset (Fin 2)), ∀ j ∈ (Finset.univ : Finset (Fin 2)), i ≠ j →
    Disjoint (coreSet i) (coreSet j) := fun i _ j _ h => by
  have hij : i.val ≠ j.val := fun e => h (Fin.ext e)
  refine rowSet_disjoint ?_
  omega

/-- A core's rows of the result are its tiles' rows. -/
theorem g_tiles (d : Dev nD) (c : Fin 2) (f : Buf (Elt F) (gLoc d)) :
    (gLoc d ↦[coreSet c]{fullShare} f : sProp 𝕄) = bigSep Finset.univ fun s : Fin 16 => gLoc d ↦[tileSet (coordsV c s)]{fullShare} f := by
  rw [← pointsTo_biUnion Finset.univ (ℓ := gLoc d) (fun s : Fin 16 => tileSet (coordsV c s)) (tiles_disjoint c), tiles_cover]

/-- The whole result is the two cores' rows. -/
theorem g_cores (d : Dev nD) (f : Buf (Elt F) (gLoc d)) :
    (gLoc d ↦{fullShare} f : sProp 𝕄) = bigSep Finset.univ fun c : Fin 2 => gLoc d ↦[coreSet c]{fullShare} f := by
  rw [← pointsTo_biUnion Finset.univ (ℓ := gLoc d) coreSet cores_disjoint, cores_cover]; try rfl

/-- A share of `ys` cut into pieces, each at some contents it may have. -/
theorem yAny_pieces (d : Dev nD) {n : ℕ} (hn : 0 < n) (q : PosShare TreeShare) :
    yAny R d q ⊢ (bigSep Finset.univ fun i : Fin n => yAny R d (pieceOf q n hn i) : sProp 𝕄) := by
  iintro ⟨%Y, %hY, H⟩
  ihave H := (Entails.of_eq (pointsTo_piecesOf Finset.univ Y hn q)) $$ H
  have hmono : (bigSep Finset.univ fun i : Fin n => (yLoc d ↦{pieceOf q n hn i} Y : sProp 𝕄))
      ⊢ (bigSep Finset.univ fun i : Fin n => yAny R d (pieceOf q n hn i) : sProp 𝕄) := bigSep_mono fun i _ => by
    show (_ : sProp 𝕄) ⊢ _
    iintro H; iexists Y; isplitr; · ipureintro; exact hY
    iexact H
  iapply hmono $$ H

/-- Disjoint parts of the result, each at values it may have, are their union at values it may have. -/
theorem gAny_join (d : Dev nD) {I : Type} [Fintype I] [DecidableEq I] (J : I → Finset S8192x1024.Idx)
    (h : ∀ i ∈ (Finset.univ : Finset I), ∀ j ∈ (Finset.univ : Finset I), i ≠ j → Disjoint (J i) (J j)) :
    (bigSep Finset.univ fun i : I => gAny m R d (J i)) ⊢ (gAny m R d (Finset.univ.biUnion J) : sProp 𝕄) := by
  haveI : Nonempty (Buf (Elt F) (gLoc d)) := ⟨m (gLoc d)⟩
  refine (bigSep_exists_pi (Y := fun _ => Buf (Elt F) (gLoc d)) Finset.univ
    (fun i f => iprop(⌜∀ x ∈ J i, Good m R d x (f x)⌝ ∗ gLoc d ↦[J i]{fullShare} f))).trans ?_
  iintro ⟨%fs, H⟩
  ihave H := (bigSep_pure_sep Finset.univ (fun i : I => ∀ x ∈ J i, Good m R d x (fs i x)) (fun i : I => (gLoc d ↦[J i]{fullShare} fs i : sProp 𝕄))) $$ H
  icases H with ⟨%hp, H⟩
  ihave H := (pointsTo_biUnion_join Finset.univ J fs (m (gLoc d)) h) $$ H
  icases H with ⟨%g, %hg, H⟩
  iexists g
  isplitr
  · ipureintro; intro x hx
    obtain ⟨i, hi, hxi⟩ := Finset.mem_biUnion.mp hx
    rw [hg i hi x hxi]; exact hp i hi x hxi
  iexact H

/-- A core's part goes to its tiles. -/
theorem core_tiles_in (d : Dev nD) (c : Fin 2) : coreIn m R d c ⊢ (bigSep Finset.univ fun s : Fin 16 => tIn m R d c s : sProp 𝕄) := by
  rw [bigSep_sep', bigSep_sep', bigSep_sep', ← g_tiles]
  unfold coreIn qT
  rw [pointsTo_piecesOf Finset.univ (m (p0Loc d)) (by decide : 0 < 16) (qC c),
    pointsTo_piecesOf Finset.univ (m (p1Loc d)) (by decide : 0 < 16) (qC c)]
  exact sep_mono (yAny_pieces R d _ _) .rfl

/-- It comes back from them. -/
theorem core_tiles_out (d : Dev nD) (c : Fin 2) : (bigSep Finset.univ fun s : Fin 16 => tOut m R d c s) ⊢ (coreOut m R d c : sProp 𝕄) := by
  rw [bigSep_sep', bigSep_sep']
  unfold coreOut qT
  rw [pointsTo_piecesOf Finset.univ (m (p0Loc d)) (by decide : 0 < 16) (qC c),
    pointsTo_piecesOf Finset.univ (m (p1Loc d)) (by decide : 0 < 16) (qC c)]
  refine sep_mono .rfl (sep_mono .rfl ((gAny_join m R d _ (tiles_disjoint c)).trans ?_))
  rw [tiles_cover]

/-- The arrays go to the cores. -/
theorem arrays_in (d : Dev nD) :
    (iprop(yAny R d fullShare ∗ (p0Loc d ↦{fullShare} m (p0Loc d)) ∗ (p1Loc d ↦{fullShare} m (p1Loc d)) ∗ gLoc d ↦{fullShare} m (gLoc d)) : sProp 𝕄)
      ⊢ bigSep Finset.univ fun c : Fin 2 => coreIn m R d c := by
  rw [bigSep_sep', bigSep_sep', bigSep_sep', ← g_cores]
  unfold qC
  rw [pointsTo_piecesOf Finset.univ (m (p0Loc d)) (by decide : 0 < 2) fullShare,
    pointsTo_piecesOf Finset.univ (m (p1Loc d)) (by decide : 0 < 2) fullShare]
  exact sep_mono (yAny_pieces R d _ _) .rfl

/-- They come back from them. -/
theorem arrays_back (d : Dev nD) : (bigSep Finset.univ fun c : Fin 2 => coreOut m R d c)
    ⊢ (iprop((p0Loc d ↦{fullShare} m (p0Loc d)) ∗ (p1Loc d ↦{fullShare} m (p1Loc d)) ∗ gAny m R d Finset.univ) : sProp 𝕄) := by
  rw [bigSep_sep', bigSep_sep']
  unfold qC
  rw [pointsTo_piecesOf Finset.univ (m (p0Loc d)) (by decide : 0 < 2) fullShare,
    pointsTo_piecesOf Finset.univ (m (p1Loc d)) (by decide : 0 < 2) fullShare]
  refine sep_mono .rfl (sep_mono .rfl ((gAny_join m R d _ cores_disjoint).trans ?_))
  rw [cores_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's part goes out to its tiles and comes back from them. -/
theorem vecSplit : (K (F := F)).VecSplit' (P m R) 0 := by
  intro d c
  show coreIn m R d (Fin.cast nCore_zero c) ⊢ |={Set.univ}=> iprop(
      (bigSep Finset.univ fun i : Fin ((K (F := F)).nSub 0) => tIn m R d (Fin.cast nCore_zero c) (Fin.cast nSub_zero i))
      ∗ ((bigSep Finset.univ fun i : Fin ((K (F := F)).nSub 0) => tOut m R d (Fin.cast nCore_zero c) (Fin.cast nSub_zero i))
          -∗ coreOut m R d (Fin.cast nCore_zero c)))
  rw [bigSep_tasks (F := F) (fun i => tIn m R d (Fin.cast nCore_zero c) i),
    bigSep_tasks (F := F) (fun i => tOut m R d (Fin.cast nCore_zero c) i)]
  iintro H; imodintro
  isplitl [H]; · iapply (core_tiles_in m R d _) $$ H
  iintro H; iapply (core_tiles_out m R d _) $$ H

theorem st0_in (d : Dev nD) : iprop(yAny R d fullShare ∗ (p0Loc d ↦{fullShare} m (p0Loc d)) ∗ (p1Loc d ↦{fullShare} m (p1Loc d)) ∗ gLoc d ↦{fullShare} m (gLoc d))
    ⊢ (bigSep Finset.univ fun c : Fin ((K (F := F)).nCore 0) => (P m R).st 0 d c : sProp 𝕄) :=
  (arrays_in m R d).trans (Entails.of_eq (bigSep_cores (F := F) fun c => coreIn m R d c).symm)
theorem dn0_out (d : Dev nD) : (bigSep Finset.univ fun c : Fin ((K (F := F)).nCore 0) => (P m R).dn 0 d c)
    ⊢ (iprop((p0Loc d ↦{fullShare} m (p0Loc d)) ∗ (p1Loc d ↦{fullShare} m (p1Loc d)) ∗ gAny m R d Finset.univ) : sProp 𝕄) :=
  (Entails.of_eq (bigSep_cores (F := F) fun c => coreOut m R d c)).trans (arrays_back m R d)

/-! ## The tile's obligation -/

theorem defs₀_vector (c : Fin τ.nSC) (s : Fin τ.nSub) :
    defs₀ (F := F) (.scVector c s) 1 ()
      = SparseCore.onTile hcore1 hsub1 (fun c s => cc1_sc_gather (coordsV c s) yV (Memref.isWhole_whole _) p0V (Memref.isWhole_whole _)
          p1V (Memref.isWhole_whole _) gV (Memref.isWhole_whole _) rV (Memref.isWhole_whole _) sV (Memref.isWhole_whole _)
          cc1_scratch2 cc1_scoped0 cc1_scoped1 cc1_scoped2 cc1_scoped3) ⟨⟩ c s := rfl

theorem obl_post {thr : Thread nD τ} {d : Dev nD} {c : Fin 2} {s : Fin 16} {Y : Buf (Elt F) (yLoc d)} (hY : R d Y) {B C : sProp 𝕄}
    {O : CellTallies nD τ sig (HIx 1)} {W : Waits sig (HIx 1)} {q : Fin 1} :
    iprop(tileOut m Y d (coordsV c s) (qT c s) (qT c s) (qT c s) ∗ B ∗ C ∗ ∃ W', ⌜∀ p ∈ W', p ∈ W ∨ p.2 = none⌝ ∗ owes thr O W')
      ⊢ iprop(tOut m R d c s ∗ B ∗ C ∗ ∃ W', ⌜∀ p ∈ W', p ∈ W ∨ p.2 = none ∨ p.2 = some q⌝ ∗ owes thr O W') := by
  iintro ⟨⟨-, H0, H1, Hg⟩, HB, HC, %W', %hW', HO⟩
  isplitl [H0 H1 Hg]
  · isplitl [H0]; · iexact H0
    isplitl [H1]; · iexact H1
    iexists gY m d Y
    isplitr; · ipureintro; exact fun i _ => ⟨Y, hY, rfl⟩
    iexact Hg
  isplitl [HB]; · iexact HB
  isplitl [HC]; · iexact HC
  iexists W'; isplitr
  · ipureintro; exact fun p hp => (hW' p hp).imp_right Or.inl
  · iexact HO

/-- Every tile of the call does its part. -/
theorem tileObl (hpre : PosOK m) : (K (F := F)).TileObl (D (F := F)) 𝒱 (P m R) v₀ 0 := by
  intro d c i O W hO _ _
  simp only [show (P m R).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  change iprop(levAts (K (F := F)).L (K (F := F)).lev ∗ emp ∗ tIn m R d ⟨_, hci.1⟩ ⟨_, hci.2⟩
    ∗ scopedBufs (V d ((K (F := F)).core 0 c) ((K (F := F)).sub 0 i)) ∗ scopedSems0 (V d ((K (F := F)).core 0 c) ((K (F := F)).sub 0 i)) ∗ owes (V d ((K (F := F)).core 0 c) ((K (F := F)).sub 0 i)) O W) ⊢ _
  refine BI.Entails.trans (Q := iprop(∃ Y : Buf (Elt F) (yLoc d), ⌜R d Y⌝ ∗ (levAts (K (F := F)).L (K (F := F)).lev ∗ emp
    ∗ tileIn m Y d (coordsV ⟨_, hci.1⟩ ⟨_, hci.2⟩) (qT ⟨_, hci.1⟩ ⟨_, hci.2⟩) (qT ⟨_, hci.1⟩ ⟨_, hci.2⟩) (qT ⟨_, hci.1⟩ ⟨_, hci.2⟩)
    ∗ scopedBufs (V d ((K (F := F)).core 0 c) ((K (F := F)).sub 0 i)) ∗ scopedSems0 (V d ((K (F := F)).core 0 c) ((K (F := F)).sub 0 i)) ∗ owes (V d ((K (F := F)).core 0 c) ((K (F := F)).sub 0 i)) O W))) ?_ ?_
  · show (_ : sProp 𝕄) ⊢ _
    iintro ⟨HL, He, ⟨⟨%Y, %hY, Hy⟩, H0, H1, Hg⟩, Hb, Hs, HO⟩
    iexists Y; isplitr; · ipureintro; exact hY
    isplitl [HL]; · iexact HL
    isplitl [He]; · iexact He
    isplitl [Hy H0 H1 Hg]
    · isplitl [Hy]; · iexact Hy
      isplitl [H0]; · iexact H0
      isplitl [H1]; · iexact H1
      iexact Hg
    isplitl [Hb]; · iexact Hb
    isplitl [Hs]; · iexact Hs
    iexact HO
  · show (_ : sProp 𝕄) ⊢ _
    iintro ⟨%Y, %hY, H⟩
    have h := (tile_body m Y d (coordsV ⟨_, hci.1⟩ ⟨_, hci.2⟩) hpre O W hO (qT ⟨_, hci.1⟩ ⟨_, hci.2⟩) (qT ⟨_, hci.1⟩ ⟨_, hci.2⟩) (qT ⟨_, hci.1⟩ ⟨_, hci.2⟩)).trans
      (wp_mono frame _ _ fun _ => obl_post m R hY (q := 0))
    change iprop(levAts (K (F := F)).L (K (F := F)).lev ∗ emp
      ∗ tileIn m Y d (coordsV ⟨_, hci.1⟩ ⟨_, hci.2⟩) (qT ⟨_, hci.1⟩ ⟨_, hci.2⟩) (qT ⟨_, hci.1⟩ ⟨_, hci.2⟩) (qT ⟨_, hci.1⟩ ⟨_, hci.2⟩)
      ∗ scopedBufs (V d ((K (F := F)).core 0 c) ((K (F := F)).sub 0 i)) ∗ scopedSems0 (V d ((K (F := F)).core 0 c) ((K (F := F)).sub 0 i)) ∗ owes (V d ((K (F := F)).core 0 c) ((K (F := F)).sub 0 i)) O W) ⊢ _ at h
    iapply h $$ H

end Cert.Proof.Gather

end
-- ==== Proof.Tabs.lean ====
/-
  The first TensorCore call's prefetched tables: for each of its forty steps, the expert, whether the step is active and
  the block of 256 rows it works on. With experts below 8 and blocks below 128 every window lies inside its array.
-/
module

public import proofs.«01_k».proof.Proof.Setup

@[expose] public section

noncomputable section

namespace Cert.Proof.Gather

open Cert.KernelIdeal Cert.KernelIdeal.Gen

open Idealize.ShloMosaic Idealize.ShloMosaic.ValueIdx

variable {F : FTy → Type} [FloatOps F] [Named F]

variable (m : (ℓ : Loc nD τ sig) → Buf (Elt F) ℓ)

/-- The expert of each step. -/
abbrev teLoc (d : Dev nD) : Loc nD τ sig := (SparseCore.T d).loc main_arg1
/-- Whether each step is active. -/
abbrev acLoc (d : Dev nD) : Loc nD τ sig := (SparseCore.T d).loc main_arg2
/-- The block of rows of each step. -/
abbrev xbLoc (d : Dev nD) : Loc nD τ sig := (SparseCore.T d).loc main_arg3

/-- Every expert is below 8 and every block below 128. -/
def TabOK : Prop := ∀ (d : Dev nD) (j : S40.Idx), (m (teLoc d) j : BitVec 32).toNat < 8 ∧ (m (xbLoc d) j : BitVec 32).toNat < 128

/-- The tables' contents. -/
abbrev pf : pre0.Contents (Elt F) := fun k => m ((SparseCore.T (0 : Dev nD)).loc (pre0.ref k))

/-- Every window of every step lies inside its array. -/
theorem ok_pf (h : TabOK m) : ok0 (pf m) := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  all_goals
    have hx : (pf m 2 ((Rect.unit (s := S40) ![(BitVec.ofNat 32 (i 0).val).toNat] S1.size (k0_off1_inb i)).emb (Shape.Idx.first (numel1_S1.symm ▸ Nat.one_pos))) : BitVec 32).toNat < 128 := (h 0 _).2
    have ht : (pf m 0 ((Rect.unit (s := S40) ![(BitVec.ofNat 32 (i 0).val).toNat] S1.size (k0_off1_inb i)).emb (Shape.Idx.first (numel1_S1.symm ▸ Nat.one_pos))) : BitVec 32).toNat < 8 := (h 0 _).1
    fin_cases a
  · show (BitVec.toNat _ + 1) * 256 ≤ 32768
    exact (Nat.mul_le_mul_right 256 hx : _ ≤ 128 * 256)
  · show (0 + 1) * 1024 ≤ 1024; decide
  · show (BitVec.toNat _ + 1) * 1 ≤ 8
    exact (Nat.mul_le_mul_right 1 ht : _ ≤ 8 * 1)
  · show (0 + 1) * 1024 ≤ 1024; decide
  · show (0 + 1) * 2048 ≤ 2048; decide
  · show (BitVec.toNat _ + 1) * 1 ≤ 8
    exact (Nat.mul_le_mul_right 1 ht : _ ≤ 8 * 1)
  · show (0 + 1) * 1 ≤ 1; decide
  · show (0 + 1) * 2048 ≤ 2048; decide
  · show (BitVec.toNat _ + 1) * 1 ≤ 8
    exact (Nat.mul_le_mul_right 1 ht : _ ≤ 8 * 1)
  · show (0 + 1) * 2048 ≤ 2048; decide
  · show (0 + 1) * 1024 ≤ 1024; decide
  · show (BitVec.toNat _ + 1) * 1 ≤ 8
    exact (Nat.mul_le_mul_right 1 ht : _ ≤ 8 * 1)
  · show (0 + 1) * 1 ≤ 1; decide
  · show (0 + 1) * 1024 ≤ 1024; decide
  · show (BitVec.toNat _ + 1) * 256 ≤ 32768
    exact (Nat.mul_le_mul_right 256 hx : _ ≤ 128 * 256)
  · show (0 + 1) * 1024 ≤ 1024; decide

/-- The tables as the two TensorCore calls take them: the second has none. -/
@[reducible] def adm (h : TabOK m) : (p : Fin 2) → (pcfgs (F := F) p).Adm
  | ⟨0, _⟩ => ⟨pf m, ok_pf m h⟩
  | ⟨1, _⟩ => cfg2.toPCfg_adm

/-- The place in the tables of step `i`. -/
abbrev ix (i : grid0.Coords) : S40.Idx := (Rect.unit (s := S40) (k0_off1 i) S1.size (k0_off1_inb i)).emb (Shape.Idx.first (numel1_S1.symm ▸ Nat.one_pos))
/-- The place of the step before it (of the first step, its own). -/
abbrev ixp (i : grid0.Coords) : S40.Idx := (Rect.unit (s := S40) (k0_off2 i) S1.size (k0_off2_inb i)).emb (Shape.Idx.first (numel1_S1.symm ▸ Nat.one_pos))

theorem ix_eq : ∀ i : grid0.Coords, ix i = ix1 (i 0) := by
  intro i; refine funext fun a => Fin.ext ?_; fin_cases a
  show (BitVec.ofNat 32 (i 0).val).toNat + 0 * 1 = (i 0).val
  have : (i 0).val < 40 := (i 0).isLt
  rw [BitVec.toNat_ofNat, Nat.mod_eq_of_lt (by omega), Nat.zero_mul, Nat.add_zero]

theorem off2_eq : ∀ k : Fin 40, (Scalar.indexCast (Scalar.maxsi (Scalar.subi (BitVec.ofNat 32 k.val) 1#32) 0#32)).toNat = k.val - 1 := by decide

theorem ixp_eq (i : grid0.Coords) : ixp i = ix1 ⟨(i 0).val - 1, lt_of_le_of_lt (Nat.sub_le _ _) (i 0).isLt⟩ := by
  refine funext fun a => Fin.ext ?_; fin_cases a
  show (Scalar.indexCast (Scalar.maxsi (Scalar.subi (BitVec.ofNat 32 (i 0).val) 1#32) 0#32)).toNat + 0 * 1 = (i 0).val - 1
  rw [off2_eq (i 0)]; simp

/-- The expert, the activity and the block of a step; the expert of the step before. -/
abbrev te (i : grid0.Coords) : BitVec 32 := m (teLoc 0) (ix i)
abbrev tep (i : grid0.Coords) : BitVec 32 := m (teLoc 0) (ixp i)
abbrev ac (i : grid0.Coords) : BitVec 32 := m (acLoc 0) (ix i)
abbrev xb (i : grid0.Coords) : BitVec 32 := m (xbLoc 0) (ix i)

/-- The condition on which a step loads its expert's weights. -/
def ldc (i : grid0.Coords) : BitVec 1 :=
  Scalar.cmpi .ne (Scalar.extui (Scalar.andi (Scalar.cmpi .eq (ac m i) 1#32)
    (Scalar.ori (Scalar.cmpi .eq (BitVec.ofNat 32 (i 0).val) 0#32) (Scalar.cmpi .ne (te m i) (tep m i)))) : BitVec 32) 0#32

end Cert.Proof.Gather

end
-- ==== Proof.Ffn.lean ====
/-
  The first TensorCore call: forty steps of the experts' two-layer network, steered by the tables. A step that changes
  expert first casts the expert's weights into scratch memory; an active step computes its block of 256 rows. Here: what a
  step does to the buffers it is handed (`sound_ffn`), for any contents.
-/
module

public import proofs.«01_k».proof.Proof.Tabs
public import Idealize.ShloMosaic.Lib.Pipeline.Frame
public import Idealize.ShloMosaic.Lib.Pipeline.Regions
public import Idealize.ShloMosaic.Lib.Pipeline.RegionArrays
public import Idealize.ShloMosaic.Lib.Pipeline.ValueKit

@[expose] public section

noncomputable section

namespace Cert.Proof.Gather

open Cert.KernelIdeal Cert.KernelIdeal.Gen

open Idealize.ShloMosaic Idealize.ShloMosaic.ValueIdx Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg)

variable {F : FTy → Type} [FloatOps F] [Named F] [∀ e, Nonempty (Elt F e)]

local notation "𝕄" => MT nD τ sig (HIx 1) (Elt F) ℕ UU ℕ

variable (m : (ℓ : Loc nD τ sig) → Buf (Elt F) ℓ)

abbrev s0Loc (d : Dev nD) : Loc nD τ sig := (SparseCore.T d).loc cc0_scratch0
abbrev s1Loc (d : Dev nD) : Loc nD τ sig := (SparseCore.T d).loc cc0_scratch1

/-- What a step leaves in the first layer's scratch, holding `f` before. -/
def scr1 (i : grid0.Coords) (X5 : S1x1024x2048.Idx → Elt F .f32) (f : S1024x2048.Idx → Elt F .bf16) : S1024x2048.Idx → Elt F .bf16 :=
  if ldc m i = 1#1 then k0_pay1 X5 else f
/-- What a step leaves in the second layer's scratch, holding `f` before. -/
def scr2 (i : grid0.Coords) (X7 : S1x2048x1024.Idx → Elt F .f32) (f : S2048x1024.Idx → Elt F .bf16) : S2048x1024.Idx → Elt F .bf16 :=
  if ldc m i = 1#1 then k0_pay2 X7 else f
/-- What a step leaves in its block of the result, holding `X9` before. -/
def outb (i : grid0.Coords) (X4 X9 : S256x1024.Idx → Elt F .f32) (f1 : S1024x2048.Idx → Elt F .bf16) (X6 : S1x1x2048.Idx → Elt F .f32)
    (f2 : S2048x1024.Idx → Elt F .bf16) (X8 : S1x1x1024.Idx → Elt F .f32) : S256x1024.Idx → Elt F .f32 :=
  if k0_cond2 (ac m i) = 1#1 then k0_pay3 X4 f1 X6 f2 X8 else X9

/-- A step of the call on any whole buffers. -/
theorem sound_ffn (i : grid0.Coords) (b4 : Memref sig .tc .vmem S256x1024 .f32) (h4 : b4.IsWhole)
    (b5 : Memref sig .tc .vmem S1x1024x2048 .f32) (h5 : b5.IsWhole) (b6 : Memref sig .tc .vmem S1x1x2048 .f32) (h6 : b6.IsWhole)
    (b7 : Memref sig .tc .vmem S1x2048x1024 .f32) (h7 : b7.IsWhole) (b8 : Memref sig .tc .vmem S1x1x1024 .f32) (h8 : b8.IsWhole)
    (b9 : Memref sig .tc .vmem S256x1024 .f32) (h9 : b9.IsWhole)
    (X4 X9 : S256x1024.Idx → Elt F .f32) (X5 : S1x1024x2048.Idx → Elt F .f32) (X6 : S1x1x2048.Idx → Elt F .f32)
    (X7 : S1x2048x1024.Idx → Elt F .f32) (X8 : S1x1x1024.Idx → Elt F .f32)
    (f1 : S1024x2048.Idx → Elt F .bf16) (f2 : S2048x1024.Idx → Elt F .bf16) (Q : PUnit → sProp 𝕄) :
    iprop(((teLoc 0 ↦{fullShare} m (teLoc 0)) ∗ (acLoc 0 ↦{fullShare} m (acLoc 0)) ∗ owns ((0 : Dev nD) : Thread nD τ) (Memref.whole cc0_scratch0) fullShare f1 ∗ owns ((0 : Dev nD) : Thread nD τ) (Memref.whole cc0_scratch1) fullShare f2
            ∗ owns ((0 : Dev nD) : Thread nD τ) b4 fullShare X4 ∗ owns ((0 : Dev nD) : Thread nD τ) b5 fullShare X5 ∗ owns ((0 : Dev nD) : Thread nD τ) b6 fullShare X6
            ∗ owns ((0 : Dev nD) : Thread nD τ) b7 fullShare X7 ∗ owns ((0 : Dev nD) : Thread nD τ) b8 fullShare X8 ∗ owns ((0 : Dev nD) : Thread nD τ) b9 fullShare X9)
          ∗ (iprop((teLoc 0 ↦{fullShare} m (teLoc 0)) ∗ (acLoc 0 ↦{fullShare} m (acLoc 0)) ∗ owns ((0 : Dev nD) : Thread nD τ) (Memref.whole cc0_scratch0) fullShare (scr1 m i X5 f1) ∗ owns ((0 : Dev nD) : Thread nD τ) (Memref.whole cc0_scratch1) fullShare (scr2 m i X7 f2)
            ∗ owns ((0 : Dev nD) : Thread nD τ) b4 fullShare X4 ∗ owns ((0 : Dev nD) : Thread nD τ) b5 fullShare X5 ∗ owns ((0 : Dev nD) : Thread nD τ) b6 fullShare X6
            ∗ owns ((0 : Dev nD) : Thread nD τ) b7 fullShare X7 ∗ owns ((0 : Dev nD) : Thread nD τ) b8 fullShare X8
            ∗ owns ((0 : Dev nD) : Thread nD τ) b9 fullShare (outb m i X4 X9 (scr1 m i X5 f1) X6 (scr2 m i X7 f2) X8)) -∗ Q ⟨⟩))
      ⊢ wp frame (wpE (defs₀ (F := F)) 𝒱₀ ((0 : Dev nD) : Thread nD τ) none) Set.univ
          (cc0__ffn_body i (Memref.whole main_arg1) (Memref.isWhole_whole _) (Memref.whole main_arg2) (Memref.isWhole_whole _) (Memref.whole main_arg3) (Memref.isWhole_whole _)
            b4 h4 b5 h5 b6 h6 b7 h7 b8 h8 b9 h9 (Memref.whole cc0_scratch0) (Memref.isWhole_whole _) (Memref.whole cc0_scratch1) (Memref.isWhole_whole _)) Q := by
  simp only [cc0__ffn_body_eq_skeleton]; unfold cc0__ffn_body_skel owns
  simp only [smemLoad, smemLoadElt, Prog.lift, Prog.bind_op, Prog.bind_ret, Prog.pure_eq_ret, Prog.bind_assoc]
  iintro ⟨⟨Ht, Ha, ⟨%g1, %hg1, Hs0⟩, ⟨%g2, %hg2, Hs1⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
  have hz2 : (![0, 0] : Fin 2 → Nat) = fun _ => 0 := funext fun a => by fin_cases a <;> rfl
  have hz3 : (![0, 0, 0] : Fin 3 → Nat) = fun _ => 0 := funext fun a => by fin_cases a <;> rfl
  have hv4 : View.readAt (Elt F) b4.view (Rect.unit ![0, 0] S256x1024.size inb_S256x1024_S256x1024_0_0).toLoadRect f4 = X4 := by
    rw [← hf4]; exact View.ld_unit_zero hz2 _ _
  have hv5 : View.readAt (Elt F) b5.view (Rect.unit ![0, 0, 0] S1x1024x2048.size inb_S1x1024x2048_S1x1024x2048_0_0_0).toLoadRect f5 = X5 := by
    rw [← hf5]; exact View.ld_unit_zero hz3 _ _
  have hv6 : View.readAt (Elt F) b6.view (Rect.unit ![0, 0, 0] S1x1x2048.size inb_S1x1x2048_S1x1x2048_0_0_0).toLoadRect f6 = X6 := by
    rw [← hf6]; exact View.ld_unit_zero hz3 _ _
  have hv7 : View.readAt (Elt F) b7.view (Rect.unit ![0, 0, 0] S1x2048x1024.size inb_S1x2048x1024_S1x2048x1024_0_0_0).toLoadRect f7 = X7 := by
    rw [← hf7]; exact View.ld_unit_zero hz3 _ _
  have hv8 : View.readAt (Elt F) b8.view (Rect.unit ![0, 0, 0] S1x1x1024.size inb_S1x1x1024_S1x1x1024_0_0_0).toLoadRect f8 = X8 := by
    rw [← hf8]; exact View.ld_unit_zero hz3 _ _
  sl_step
  sl_step
  sl_step
  split
  · rename_i hc
    have hc' : ldc m i = 1#1 := hc
    sl_step
    sl_step
    sl_step
    sl_step
    sl_step
    sl_step
    ihave Hx : owns ((0 : Dev nD) : Thread nD τ) (Memref.whole cc0_scratch0) fullShare (scr1 m i X5 f1) $$ [Hs0]
    · unfold owns; iexists _; isplitr
      swap; · iexact Hs0
      ipureintro
      unfold scr1; rw [if_pos hc', ← hv5]
      refine (View.read_writes_eq_canon (View.whole cc0_scratch0) g1 [⟨Rect.unit (s := S1024x2048) ![0, 0] S1024x2048.size inb_S1024x2048_S1024x2048_0_0, k0_pay1 _⟩] fun y => ⟨_, List.mem_singleton_self _, ?_⟩).trans (View.canon_unit_zero hz2 _ _)
      rw [Rect.mem_set_unit]; intro a; rw [hz2]; exact ⟨Nat.zero_le _, by rw [Nat.zero_add]; exact (y a).isLt⟩
    ihave Hy : owns ((0 : Dev nD) : Thread nD τ) (Memref.whole cc0_scratch1) fullShare (scr2 m i X7 f2) $$ [Hs1]
    · unfold owns; iexists _; isplitr
      swap; · iexact Hs1
      ipureintro
      unfold scr2; rw [if_pos hc', ← hv7]
      refine (View.read_writes_eq_canon (View.whole cc0_scratch1) g2 [⟨Rect.unit (s := S2048x1024) ![0, 0] S2048x1024.size inb_S2048x1024_S2048x1024_0_0, k0_pay2 _⟩] fun y => ⟨_, List.mem_singleton_self _, ?_⟩).trans (View.canon_unit_zero hz2 _ _)
      rw [Rect.mem_set_unit]; intro a; rw [hz2]; exact ⟨Nat.zero_le _, by rw [Nat.zero_add]; exact (y a).isLt⟩
    unfold owns
    clear hg1 hg2
    icases Hx with ⟨%g1, %hg1, Hs0⟩
    icases Hy with ⟨%g2, %hg2, Hs1⟩
    sl_step
    split
    · rename_i ha
      have ha' : k0_cond2 (ac m i) = 1#1 := ha
      have hw1 : View.readAt (Elt F) (Memref.whole cc0_scratch0).view (Rect.unit ![0, 0] S1024x2048.size inb_S1024x2048_S1024x2048_0_0).toLoadRect g1 = scr1 m i X5 f1 := by
        rw [← hg1]; exact View.ld_unit_zero hz2 _ _
      have hw2 : View.readAt (Elt F) (Memref.whole cc0_scratch1).view (Rect.unit ![0, 0] S2048x1024.size inb_S2048x1024_S2048x1024_0_0).toLoadRect g2 = scr2 m i X7 f2 := by
        rw [← hg2]; exact View.ld_unit_zero hz2 _ _
      sl_step
      sl_step
      sl_step
      sl_step
      sl_step
      sl_step
      sl_step
      sl_step
      iapply Hk
      isplitl [Ht]; · iexact Ht
      isplitl [Ha]; · iexact Ha
      isplitl [Hs0]
      · iexists g1; isplitr; · ipureintro; exact hg1
        iexact Hs0
      isplitl [Hs1]
      · iexists g2; isplitr; · ipureintro; exact hg2
        iexact Hs1
      isplitl [H4]
      · iexists f4; isplitr; · ipureintro; exact hf4
        iexact H4
      isplitl [H5]
      · iexists f5; isplitr; · ipureintro; exact hf5
        iexact H5
      isplitl [H6]
      · iexists f6; isplitr; · ipureintro; exact hf6
        iexact H6
      isplitl [H7]
      · iexists f7; isplitr; · ipureintro; exact hf7
        iexact H7
      isplitl [H8]
      · iexists f8; isplitr; · ipureintro; exact hf8
        iexact H8
      · iexists _; isplitr
        swap; · iexact H9
        ipureintro
        unfold outb; rw [if_pos ha', ← hw1, ← hw2, ← hv4, ← hv6, ← hv8]
        refine (View.read_writes_eq_canon b9.view f9 [⟨Rect.unit (s := S256x1024) ![0, 0] S256x1024.size inb_S256x1024_S256x1024_0_0, k0_pay3 _ _ _ _ _⟩] fun y => ⟨_, List.mem_singleton_self _, ?_⟩).trans (View.canon_unit_zero hz2 _ _)
        rw [Rect.mem_set_unit]; intro a; rw [hz2]; exact ⟨Nat.zero_le _, by rw [Nat.zero_add]; exact (y a).isLt⟩
    · rename_i ha
      have ha' : ¬ k0_cond2 (ac m i) = 1#1 := ha
      sl_step
      iapply Hk
      isplitl [Ht]; · iexact Ht
      isplitl [Ha]; · iexact Ha
      isplitl [Hs0]
      · iexists g1; isplitr; · ipureintro; exact hg1
        iexact Hs0
      isplitl [Hs1]
      · iexists g2; isplitr; · ipureintro; exact hg2
        iexact Hs1
      isplitl [H4]
      · iexists f4; isplitr; · ipureintro; exact hf4
        iexact H4
      isplitl [H5]
      · iexists f5; isplitr; · ipureintro; exact hf5
        iexact H5
      isplitl [H6]
      · iexists f6; isplitr; · ipureintro; exact hf6
        iexact H6
      isplitl [H7]
      · iexists f7; isplitr; · ipureintro; exact hf7
        iexact H7
      isplitl [H8]
      · iexists f8; isplitr; · ipureintro; exact hf8
        iexact H8
      · iexists f9; isplitr
        · ipureintro; unfold outb; rw [if_neg ha']; exact hf9
        iexact H9
  · rename_i hc
    have hc' : ¬ ldc m i = 1#1 := hc
    replace hg1 : View.read (Elt F) (View.whole cc0_scratch0) g1 = scr1 m i X5 f1 := by unfold scr1; rw [if_neg hc']; exact hg1
    replace hg2 : View.read (Elt F) (View.whole cc0_scratch1) g2 = scr2 m i X7 f2 := by unfold scr2; rw [if_neg hc']; exact hg2
    sl_step
    split
    · rename_i ha
      have ha' : k0_cond2 (ac m i) = 1#1 := ha
      have hw1 : View.readAt (Elt F) (Memref.whole cc0_scratch0).view (Rect.unit ![0, 0] S1024x2048.size inb_S1024x2048_S1024x2048_0_0).toLoadRect g1 = scr1 m i X5 f1 := by
        rw [← hg1]; exact View.ld_unit_zero hz2 _ _
      have hw2 : View.readAt (Elt F) (Memref.whole cc0_scratch1).view (Rect.unit ![0, 0] S2048x1024.size inb_S2048x1024_S2048x1024_0_0).toLoadRect g2 = scr2 m i X7 f2 := by
        rw [← hg2]; exact View.ld_unit_zero hz2 _ _
      sl_step
      sl_step
      sl_step
      sl_step
      sl_step
      sl_step
      sl_step
      sl_step
      iapply Hk
      isplitl [Ht]; · iexact Ht
      isplitl [Ha]; · iexact Ha
      isplitl [Hs0]
      · iexists g1; isplitr; · ipureintro; exact hg1
        iexact Hs0
      isplitl [Hs1]
      · iexists g2; isplitr; · ipureintro; exact hg2
        iexact Hs1
      isplitl [H4]
      · iexists f4; isplitr; · ipureintro; exact hf4
        iexact H4
      isplitl [H5]
      · iexists f5; isplitr; · ipureintro; exact hf5
        iexact H5
      isplitl [H6]
      · iexists f6; isplitr; · ipureintro; exact hf6
        iexact H6
      isplitl [H7]
      · iexists f7; isplitr; · ipureintro; exact hf7
        iexact H7
      isplitl [H8]
      · iexists f8; isplitr; · ipureintro; exact hf8
        iexact H8
      · iexists _; isplitr
        swap; · iexact H9
        ipureintro
        unfold outb; rw [if_pos ha', ← hw1, ← hw2, ← hv4, ← hv6, ← hv8]
        refine (View.read_writes_eq_canon b9.view f9 [⟨Rect.unit (s := S256x1024) ![0, 0] S256x1024.size inb_S256x1024_S256x1024_0_0, k0_pay3 _ _ _ _ _⟩] fun y => ⟨_, List.mem_singleton_self _, ?_⟩).trans (View.canon_unit_zero hz2 _ _)
        rw [Rect.mem_set_unit]; intro a; rw [hz2]; exact ⟨Nat.zero_le _, by rw [Nat.zero_add]; exact (y a).isLt⟩
    · rename_i ha
      have ha' : ¬ k0_cond2 (ac m i) = 1#1 := ha
      sl_step
      iapply Hk
      isplitl [Ht]; · iexact Ht
      isplitl [Ha]; · iexact Ha
      isplitl [Hs0]
      · iexists g1; isplitr; · ipureintro; exact hg1
        iexact Hs0
      isplitl [Hs1]
      · iexists g2; isplitr; · ipureintro; exact hg2
        iexact Hs1
      isplitl [H4]
      · iexists f4; isplitr; · ipureintro; exact hf4
        iexact H4
      isplitl [H5]
      · iexists f5; isplitr; · ipureintro; exact hf5
        iexact H5
      isplitl [H6]
      · iexists f6; isplitr; · ipureintro; exact hf6
        iexact H6
      isplitl [H7]
      · iexists f7; isplitr; · ipureintro; exact hf7
        iexact H7
      isplitl [H8]
      · iexists f8; isplitr; · ipureintro; exact hf8
        iexact H8
      · iexists f9; isplitr
        · ipureintro; unfold outb; rw [if_neg ha']; exact hf9
        iexact H9

end Cert.Proof.Gather

end
-- ==== Proof.Comb.lean ====
/-
  The TensorCore call: sixteen blocks of 256 tokens. At each the body multiplies the token's two gathered rows by its two
  weights and adds them. Here: the proof data of its pipeline (`dats`), the body's obligation (`body_obligation`), the
  region as a segment of the program (`region`), and what the result array holds at the end (`out_eq`).
-/
module

public import proofs.«01_k».proof.Proof.Tabs
public import Idealize.ShloMosaic.Lib.Pipeline.Frame
public import Idealize.ShloMosaic.Lib.Pipeline.Regions
public import Idealize.ShloMosaic.Lib.Pipeline.RegionArrays
public import Idealize.ShloMosaic.Lib.Pipeline.ValueKit

@[expose] public section

noncomputable section

namespace Cert.Proof.Gather

open Cert.KernelIdeal Cert.KernelIdeal.Gen

open Idealize.ShloMosaic Idealize.ShloMosaic.ValueIdx Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation BodyObligationLoose)

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (h : TabOK m) (g : (d : Dev nD) → Buf (Elt F) (gLoc d))

/-! ## The proof data -/

/-- The rounds of the pipeline's schedule. -/
abbrev EP : Emb UP (MT nD τ sig (HIx 1) (Elt F) ℕ UU ℕ) := (Emb.inl : Emb UP (UP × Counters)).trans embR

/-- The arrays when the region is entered: as at launch, the gathered rows at `g`. -/
def VR (d : Dev nD) : (b : Ref sig .tc) → Buf (Elt F) ((d.tc : Thread nD τ).loc b) :=
  Function.update (fun b => m ((d.tc : Thread nD τ).loc b)) main_v3 (g d)

/-- The blocks the body reads at point `t`. -/
abbrev blk0 (d : Dev nD) (t : Fin cfg2.N) : S256x1024.Idx → Elt F .f32 := (win2_0.blk t).view.read (Elt F) (g d)
abbrev blk1 (d : Dev nD) (t : Fin cfg2.N) : S256x1024.Idx → Elt F .f32 := (win2_1.blk t).view.read (Elt F) (g d)
abbrev blk2 (d : Dev nD) (t : Fin cfg2.N) : S256x2.Idx → Elt F .f32 := (win2_2.blk t).view.read (Elt F) (m (wLoc d))

/-- The proof data: the arrays at their entry contents; after the body the inputs' blocks and, in the result's, the
    weighted sum; nothing owed; the recorded waits at or below the SparseCore call's level. -/
def dat2 (c : Dev nD) : Dat τ (Elt F) (HIx 1) ℕ UU ℕ cfg2 c where
  A w := VR m g c (Pipeline.arrRef spec2 w)
  after w t := match w with
    | ⟨0, _⟩ => blk0 g c t
    | ⟨1, _⟩ => blk1 g c t
    | ⟨2, _⟩ => blk2 m c t
    | ⟨3, _⟩ => k2_pay1 (blk2 m c t) (blk0 g c t) (blk1 g c t)
  Φ _ := Pipeline.scopedRest spec2 c
  q w := Pipeline.shareOf spec2 w
  owed _ := 0
  recorded _ := {x | (K (F := F)).lev (T c, x.1) x.2 ≤ 8}

/-- The proof data by call: this one's; of the first call, nothing. -/
def dats : (p : Fin 2) → (c : Dev nD) → Dat τ (Elt F) (HIx 1) ℕ UU ℕ (Pipeline.pin (pcfgs (F := F)) (adm m h) p) c
  | ⟨0, _⟩ => fun c => { A := fun w => m ((c.tc : Thread nD τ).loc (Pipeline.arrRef spec0 w)), after := fun _ _ _ => Classical.arbitrary _, Φ := fun _ => iprop(emp), q := fun _ => fullShare, owed := fun _ => 0 }
  | ⟨1, _⟩ => fun c => dat2 m g c

/-! ## What the body finds -/

theorem before_0 (c : Dev nD) (t : Fin cfg2.N) (d) : (dat2 m g c).before (0 : Fin 4) t d = blk0 g c t := by
  unfold Dat.before; rw [if_pos (fetch2_0 t)]; rfl
theorem before_1 (c : Dev nD) (t : Fin cfg2.N) (d) : (dat2 m g c).before (1 : Fin 4) t d = blk1 g c t := by
  unfold Dat.before; rw [if_pos (fetch2_1 t)]; rfl
theorem before_2 (c : Dev nD) (t : Fin cfg2.N) (d) : (dat2 m g c).before (2 : Fin 4) t d = blk2 m c t := by
  unfold Dat.before; rw [if_pos (fetch2_2 t)]; rfl

/-! ## The body -/

/-- The body on any whole buffers: the result's ends at the weighted sum of the two blocks, the others unchanged. -/
theorem sound_body (c : Dev nD) (i : grid2.Coords) (b1 : Memref sig .tc .vmem S256x1024 .f32) (h1 : b1.IsWhole)
    (b2 : Memref sig .tc .vmem S256x1024 .f32) (h2 : b2.IsWhole) (b3 : Memref sig .tc .vmem S256x2 .f32) (h3 : b3.IsWhole)
    (b4 : Memref sig .tc .vmem S256x1024 .f32) (h4 : b4.IsWhole)
    (X1 X2 X4 : S256x1024.Idx → Elt F .f32) (X3 : S256x2.Idx → Elt F .f32) (Q : PUnit → sProp 𝕄) :
    iprop((owns (c : Thread nD τ) b1 fullShare X1 ∗ owns (c : Thread nD τ) b2 fullShare X2 ∗ owns (c : Thread nD τ) b3 fullShare X3
            ∗ owns (c : Thread nD τ) b4 fullShare X4)
          ∗ (iprop(owns (c : Thread nD τ) b1 fullShare X1 ∗ owns (c : Thread nD τ) b2 fullShare X2 ∗ owns (c : Thread nD τ) b3 fullShare X3
            ∗ owns (c : Thread nD τ) b4 fullShare (k2_pay1 X3 X1 X2)) -∗ Q ⟨⟩))
      ⊢ wp frame (wpE (defs₀ (F := F)) 𝒱₀ c none) Set.univ (cc2__comb_body i b1 h1 b2 h2 b3 h3 b4 h4) Q := by
  simp only [cc2__comb_body_eq_skeleton]; unfold cc2__comb_body_skel owns
  iintro ⟨⟨⟨%f1, %hf1, H1⟩, ⟨%f2, %hf2, H2⟩, ⟨%f3, %hf3, H3⟩, ⟨%f4, %hf4, H4⟩⟩, Hk⟩
  sl_exec
  sl_step
  iapply Hk
  have hz : (![0, 0] : Fin 2 → Nat) = fun _ => 0 := funext fun a => by fin_cases a <;> rfl
  have hv3 : View.readAt (Elt F) b3.view (Rect.unit ![0, 0] S256x2.size inb_S256x2_S256x2_0_0).toLoadRect f3 = X3 := by
    rw [← hf3]; exact View.ld_unit_zero hz _ _
  have hv1 : View.readAt (Elt F) b1.view (Rect.unit ![0, 0] S256x1024.size inb_S256x1024_S256x1024_0_0).toLoadRect f1 = X1 := by
    rw [← hf1]; exact View.ld_unit_zero hz _ _
  have hv2 : View.readAt (Elt F) b2.view (Rect.unit ![0, 0] S256x1024.size inb_S256x1024_S256x1024_0_0).toLoadRect f2 = X2 := by
    rw [← hf2]; exact View.ld_unit_zero hz _ _
  rw [hv1, hv2, hv3]
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  · iexists _; isplitr
    swap; · iexact H4
    ipureintro
    refine (View.read_writes_eq_canon b4.view f4 _ fun y => ⟨_, List.mem_singleton_self _, ?_⟩).trans (View.canon_unit_zero hz _ _)
    rw [Rect.mem_set_unit]; intro a; rw [hz]; exact ⟨Nat.zero_le _, by rw [Nat.zero_add]; exact (y a).isLt⟩

/-- The body's obligation at every point. -/
theorem body_obligation (c : Dev nD) : BodyObligationLoose (dat2 m g c) (defs₀ (F := F)) 𝒱₀ (none : HIx 1) Set.univ := fun t => by
  rw [bigSep_W2, bigSep_W2]
  simp only
  rw [show (dat2 m g c).Φ t.succ = (dat2 m g c).Φ t.castSucc from rfl, show (dat2 m g c).owesAt none t.succ = (dat2 m g c).owesAt none t.castSucc from rfl]
  iintro ⟨HΦ, Ho, ⟨%d0, H0⟩, ⟨%d1, H1⟩, ⟨%d2, H2⟩, ⟨%d3, H3⟩⟩
  rw [before_0 m g c t d0, before_1 m g c t d1, before_2 m g c t d2]
  iapply (sound_body (F := F) c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (blk0 g c t) (blk1 g c t) _ (blk2 m c t) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The region -/

/-- The TensorCore call as a segment: entered with its arrays at their entry contents and the core owing nothing, its
    recorded waits low; left with the arrays at their final contents and the same. -/
def region : Pipeline.RegionSeg (pcfgs (F := F)) (adm m h) (dats m h g) (none : HIx 1) defs₀ 𝒱₀ (K (F := F)).L (K (F := F)).lev 1 where
  win := winFacts₀2
  block_pos := block_pos2
  stage_whole := stage_whole2
  K := PEmpty
  osem k := k.elim
  ho := Pipeline.OwnSemFacts.none _
  hbody := body_obligation m g
  hwaits := Pipeline.hwaits_of_owed_zero (pcfgs (F := F)) (adm m h) (dats m h g) (none : HIx 1) (K (F := F)).L (K (F := F)).lev 1 (fun _ _ => rfl)
  pre c := iprop((dat2 m g c).arrays ((dat2 m g c).arrAt · 0) ∗ ∃ W, ⌜(K (F := F)).WBelow (T c) W 8⌝ ∗ owes (T c) (0 : CellTallies nD τ sig (HIx 1)) W)
  post c := iprop((dat2 m g c).arrays ((dat2 m g c).arrAt · cfg2.N) ∗ ∃ W, ⌜(K (F := F)).WBelow (T c) W 8⌝ ∗ owes (T c) (0 : CellTallies nD τ sig (HIx 1)) W)
  X _ := iprop(emp)
  Y _ := iprop(emp)
  Z _ := iprop(emp)
  hentry c := by
    rw [Pipeline.ownSems0_none, Pipeline.prefHeld_of_none _ rfl]
    iintro ⟨⟨Ha, %W, %hW, HO⟩, -, -⟩
    imodintro
    isplitl [Ha]; · iexact Ha
    isplitr; · iempintro
    isplitl [HO]
    · unfold Dat.owesAt Pipeline.owesWithin Dat.bound
      iexists W; isplitr; · ipureintro; exact fun x hx => Or.inl (hW x hx)
      iexact HO
    isplitr; · iempintro
    iempintro
  hin c := by
    have h3 : iprop((emp : sProp 𝕄) ∗ Pipeline.prefHeld (pcfgs (F := F) 1).pre c (fun _ => fullShare) (adm m h 1).1 ∗ Pipeline.scopedRest spec2 c) ⊢ (Pipeline.scopedRest spec2 c : sProp 𝕄) :=
      sep_elim_right.trans sep_elim_right
    exact h3
  hout c := by
    rw [Pipeline.ownSems0_none]
    show Pipeline.scopedRest spec2 c ⊢ _
    iintro H
    isplitr; · iempintro
    isplitr; · iempintro
    iexact H
  hexit c := by
    iintro ⟨Ha, HO, -, -⟩
    imodintro
    isplitl [Ha]; · iexact Ha
    unfold Dat.owesAt Pipeline.owesWithin
    icases HO with ⟨%W, %hW, HO⟩; iexists W
    isplitr
    · ipureintro; intro x hx
      rcases hW hx with h | ⟨w, s, h⟩
      · exact h
      · subst h; exact Nat.zero_le 8
    iexact HO

/-! ## What the result array holds at the end -/

/-- The weighted sum of row `n` of the gathered rows, by the first weight, and row `4096 + n`, by the second. -/
def oVal (g : S8192x1024.Idx → Elt F .f32) (w : S4096x2.Idx → Elt F .f32) : S4096x1024.Idx → Elt F .f32 := fun x =>
  FloatOps.addf (FloatOps.mulf (g (ValueIdx.ix2 ⟨(x 0).val, by have := (x 0).isLt; simp at this; omega⟩ (x 1))) (w (ValueIdx.ix2 (x 0) 0)))
    (FloatOps.mulf (g (ValueIdx.ix2 ⟨4096 + (x 0).val, by have := (x 0).isLt; simp at this; omega⟩ (x 1))) (w (ValueIdx.ix2 (x 0) 1)))

/-- The blocks' places along the grid. -/
theorem idx_0 : ∀ t : Fin grid2.N, win2_0.index t = ![t.val, 0] := by decide +kernel
theorem idx_1 : ∀ t : Fin grid2.N, win2_1.index t = ![t.val + 16, 0] := by decide +kernel
theorem idx_2 : ∀ t : Fin grid2.N, win2_2.index t = ![t.val, 0] := by decide +kernel
theorem idx_3 : ∀ t : Fin grid2.N, win2_3.index t = ![t.val, 0] := by decide +kernel

/-- The body's payload at an element: the first row's element by the first weight plus the second row's by the second. -/
theorem k2_pay1_apply (w : S256x2.Idx → Elt F .f32) (a b : S256x1024.Idx → Elt F .f32) (y : S256x1024.Idx) :
    k2_pay1 w a b y = FloatOps.addf (FloatOps.mulf (a y) (w (ValueIdx.ix2 (y 0) 0))) (FloatOps.mulf (b y) (w (ValueIdx.ix2 (y 0) 1))) := by
  unfold k2_pay1
  have h0 : broadcastTo S256x1024 (extractStridedSlice S256x1 ![0, 0] w slices_S256x2_o0_0_S256x1) broadcasts_S256x1_S256x1024 y = w (ValueIdx.ix2 (y 0) 0) :=
    (broadcastTo_apply _ _ y (ValueIdx.ix2 (y 0) 0) fun a => by fin_cases a <;> rfl).trans
      (extractStridedSlice_apply _ _ _ _ _ fun a => by fin_cases a <;> simp [ValueIdx.ix2])
  have h1 : broadcastTo S256x1024 (extractStridedSlice S256x1 ![0, 1] w slices_S256x2_o0_1_S256x1) broadcasts_S256x1_S256x1024 y = w (ValueIdx.ix2 (y 0) 1) :=
    (broadcastTo_apply _ _ y (ValueIdx.ix2 (y 0) 0) fun a => by fin_cases a <;> rfl).trans
      (extractStridedSlice_apply _ _ _ _ _ fun a => by fin_cases a <;> simp [ValueIdx.ix2])
  simp only [addf, mulf]
  rw [shapeCast_self, shapeCast_self, h0, h1]

/-- The result array at the region's end. -/
theorem out_eq (c : Dev nD) : (dat2 m g c).arrAt (3 : Fin 4) 16 = oVal (g c) (m (wLoc c)) := by
  refine (dat2 m g c).arrAt_eq_of_covers (3 : Fin 4) _ (show win2_3.Covers by decide +kernel) (fun t hf y => ?_) (Memref.isWhole_whole _)
  show k2_pay1 (blk2 m c t) (blk0 g c t) (blk1 g c t) y = oVal (g c) (m (wLoc c)) ((win2_3.blk t).view.emb y)
  rw [k2_pay1_apply]
  have e0 : ∀ (y : S256x1024.Idx), blk0 g c t y = g c ((win2_0.blk t).view.emb y) := fun _ => rfl
  have e1 : ∀ (y : S256x1024.Idx), blk1 g c t y = g c ((win2_1.blk t).view.emb y) := fun _ => rfl
  have e2 : ∀ (y : S256x2.Idx), blk2 m c t y = m (wLoc c) ((win2_2.blk t).view.emb y) := fun _ => rfl
  rw [e0, e1, e2, e2]
  have ht : t.val < 16 := t.isLt
  unfold oVal
  have hz0 : ((win2_3.blk t).view.emb y 0).val = t.val * 256 + (y 0).val := by blk_simp [idx_3]; try rfl
  have hz1 : ((win2_3.blk t).view.emb y 1).val = (y 1).val := by blk_simp [idx_3]; try simp
  generalize (win2_3.blk t).view.emb y = z at hz0 hz1
  congr 3
  all_goals refine funext fun a => Fin.ext ?_; fin_cases a
  · blk_simp [idx_0]; exact hz0.symm
  · blk_simp [idx_0]; exact hz1.symm
  · blk_simp [idx_2]; exact hz0.symm
  · blk_simp [idx_2]
  · blk_simp [idx_1]; show (t.val + 16) * 256 + (y 0).val = 4096 + (z 0).val; rw [hz0]; ring
  · blk_simp [idx_1]; exact hz1.symm
  · blk_simp [idx_2]; exact hz0.symm
  · blk_simp [idx_2]

end Cert.Proof.Gather

end
-- ==== Proof.FfnRegion.lean ====
/-
  The experts' network as a region of the run: what each step may find and leave in its buffers, as relations. The weights
  held in scratch are what the steps so far have cast (`Scr`); a step that is not active leaves its block of the result
  as found, which before the first write is anything.
-/
module

public import proofs.«01_k».proof.Proof.Ffn
public import proofs.«01_k».proof.Proof.Comb

@[expose] public section

noncomputable section

namespace Cert.Proof.Gather

open Cert.KernelIdeal Cert.KernelIdeal.Gen

open Idealize.ShloMosaic Idealize.ShloMosaic.ValueIdx Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg)

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (h : TabOK m)

/-! ## The proof data -/

/-- The configuration at the tables of the launch memory. -/
abbrev cf (h : TabOK m) : Cfg sig Λ₀ := cfg0 (F := F) ⟨pf m, ok_pf m h⟩

/-- The two biases as the call reads them: one row. -/
def b1row (d : Dev nD) : S8x1x2048.Idx → Elt F .f32 := shapeCast S8x1x2048 (m ((d.tc : Thread nD τ).loc main_arg8) : S8x2048.Idx → Elt F .f32) shapeCasts_S8x2048_S8x1x2048
def b2row (d : Dev nD) : S8x1x1024.Idx → Elt F .f32 := shapeCast S8x1x1024 (m ((d.tc : Thread nD τ).loc main_arg10) : S8x1024.Idx → Elt F .f32) shapeCasts_S8x1024_S8x1x1024

/-- The arrays when the region is entered: as at launch, the biases reshaped. -/
def V0 (d : Dev nD) : (b : Ref sig .tc) → Buf (Elt F) ((d.tc : Thread nD τ).loc b) :=
  Function.update (Function.update (fun b => m ((d.tc : Thread nD τ).loc b)) main_v0 (b1row m d)) main_v1 (b2row m d)

/-- The block of array `w` a step reads. -/
def bk (c : Dev nD) (w : Fin 6) (t : Fin (cf m h).N) : ((cf m h).win w).block.Idx → Elt F ((cf m h).win w).elt :=
  ((cf m h).win w).fill ((cf m h).grid.coords t) (fun _ => Classical.arbitrary _) (((cf m h).win w).blk t |>.view.read (Elt F) (V0 m c (Pipeline.arrRef spec0 w)))

abbrev bx (c : Dev nD) (t : Fin (cf m h).N) : S256x1024.Idx → Elt F .f32 := bk m h c 0 t
abbrev bw1 (c : Dev nD) (t : Fin (cf m h).N) : S1x1024x2048.Idx → Elt F .f32 := bk m h c 1 t
abbrev bb1 (c : Dev nD) (t : Fin (cf m h).N) : S1x1x2048.Idx → Elt F .f32 := bk m h c 2 t
abbrev bw2 (c : Dev nD) (t : Fin (cf m h).N) : S1x2048x1024.Idx → Elt F .f32 := bk m h c 3 t
abbrev bb2 (c : Dev nD) (t : Fin (cf m h).N) : S1x1x1024.Idx → Elt F .f32 := bk m h c 4 t

/-- What the scratch memory may hold after `n` steps. -/
def Scr (c : Dev nD) : ℕ → (S1024x2048.Idx → Elt F .bf16) → (S2048x1024.Idx → Elt F .bf16) → Prop
  | 0 => fun _ _ => True
  | n + 1 => fun f1 f2 => ∃ g1 g2, Scr c n g1 g2 ∧ ∃ hn : n < (cf m h).N,
      f1 = scr1 m (grid0.coords ⟨n, hn⟩) (bw1 m h c ⟨n, hn⟩) g1 ∧ f2 = scr2 m (grid0.coords ⟨n, hn⟩) (bw2 m h c ⟨n, hn⟩) g2

/-- What a step may leave in its block of the result, holding `Y` before. -/
def Left (c : Dev nD) (t : Fin (cf m h).N) (Y X : S256x1024.Idx → Elt F .f32) : Prop :=
  ∃ f1 f2, Scr m h c (t.val + 1) f1 f2 ∧ X = outb m (grid0.coords t) (bx m h c t) Y f1 (bb1 m h c t) f2 (bb2 m h c t)

/-- The scratch memory after `n` steps. -/
abbrev scr (c : Dev nD) (n : ℕ) : sProp 𝕄 := iprop(∃ f1 f2, ⌜Scr m h c n f1 f2⌝
  ∗ owns (c : Thread nD τ) (Memref.whole cc0_scratch0) fullShare f1 ∗ owns (c : Thread nD τ) (Memref.whole cc0_scratch1) fullShare f2)
/-- The tables. -/
abbrev tabs (c : Dev nD) : sProp 𝕄 := iprop((teLoc c ↦{fullShare} m (teLoc c)) ∗ (acLoc c ↦{fullShare} m (acLoc c)) ∗ xbLoc c ↦{fullShare} m (xbLoc c))
/-- One buffer at some contents. -/
abbrev anyB (c : Dev nD) (b : Ref sig .tc) : sProp 𝕄 := iprop(∃ f : Buf (Elt F) ((c : Thread nD τ).loc b), ((c : Thread nD τ).loc b) ↦{fullShare} f)
/-- The other TensorCore call's staging buffers. -/
abbrev others (c : Dev nD) : sProp 𝕄 := iprop(anyB c cc2_stg0_0 ∗ anyB c cc2_stg0_1 ∗ anyB c cc2_stg1_0 ∗ anyB c cc2_stg1_1
  ∗ anyB c cc2_stg2_0 ∗ anyB c cc2_stg2_1 ∗ anyB c cc2_stg3_0 ∗ anyB (F := F) c cc2_stg3_1)

/-- The relational proof data: inputs as found; the result's block as a step may leave it; the tables, the scratch memory and the
    other call's buffers carried; what the SparseCore call is owed stays owed. -/
def rdat0 (c : Dev nD) : RDat τ (Elt F) (HIx 1) ℕ UU ℕ (cf m h) c where
  A w := V0 m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => Left m h c t Y X
  Φ t := iprop(tabs m c ∗ scr m h c t.val ∗ others c)
  q _ := fullShare
  owed _ := (K (F := F)).Otc c 0
  recorded _ := {x | (K (F := F)).lev (SparseCore.T c, x.1) x.2 ≤ 0}

/-- The proof data by call: this one's; of the second call, nothing. -/
def rdats : (p : Fin 2) → (c : Dev nD) → RDat τ (Elt F) (HIx 1) ℕ UU ℕ (Pipeline.pin (pcfgs (F := F)) (adm m h) p) c
  | ⟨0, _⟩ => fun c => rdat0 m h c
  | ⟨1, _⟩ => fun c => { A := fun w => m ((c.tc : Thread nD τ).loc (Pipeline.arrRef spec2 w)), after := fun _ _ _ _ => True, Φ := fun _ => iprop(emp), q := fun _ => fullShare, owed := fun _ => 0 }

/-! ## What the body finds -/

theorem find_in (c : Dev nD) (w : Fin 6) (hw : ((cf m h).win w).isOut = false) (hk : ∀ t Y X, (rdat0 m h c).after w t Y X → X = Y)
    (t : Fin (cf m h).N) (Y) (hY : (rdat0 m h c).Finds w t Y) : Y = bk m h c w t := by
  obtain ⟨d, hd⟩ := (rdat0 m h c).finds_in_eq_fetched w hw (fun _ _ _ => rfl) hk t Y hY
  exact hd.trans (Pipeline.fill_of_clip_none (cfg := cf m h) w (grid0.coords t) (fun _ => rfl) d (fun _ => Classical.arbitrary _) ((rdat0 m h c).blockOf w t))

theorem body0 (c : Dev nD) : (rdat0 m h c).BodyObligation (defs₀ (F := F)) 𝒱₀ (none : HIx 1) Set.univ := fun t Y hY => by
  obtain rfl : c = 0 := Subsingleton.elim _ _
  rw [bigSep_W0, bigSep_W0]
  have h0 := find_in m h 0 0 rfl (fun _ _ _ e => e) t _ (hY 0)
  have h1 := find_in m h 0 1 rfl (fun _ _ _ e => e) t _ (hY 1)
  have h2 := find_in m h 0 2 rfl (fun _ _ _ e => e) t _ (hY 2)
  have h3 := find_in m h 0 3 rfl (fun _ _ _ e => e) t _ (hY 3)
  have h4 := find_in m h 0 4 rfl (fun _ _ _ e => e) t _ (hY 4)
  rw [h0, h1, h2, h3, h4]
  rw [show (rdat0 m h 0).Φ t.castSucc = iprop(tabs m 0 ∗ scr m h 0 t.val ∗ others 0) from rfl,
    show (rdat0 m h 0).Φ t.succ = iprop(tabs m 0 ∗ scr m h 0 (t.val + 1) ∗ others 0) from rfl,
    show (rdat0 m h 0).owesAt none t.succ = (rdat0 m h 0).owesAt none t.castSucc from rfl]
  iintro ⟨⟨⟨Ht, Ha, Hx⟩, ⟨%f1, %f2, %hs, Hs0, Hs1⟩, Hr⟩, Ho, H0, H1, H2, H3, H4, H5⟩
  iapply (sound_ffn (F := F) m (grid0.coords t) ((spec0 0).stage ((cf m h).slots t 0)) (hstage0_0 (((cf m h).slots t 0).cast nbuf0_0))
    ((spec0 1).stage ((cf m h).slots t 1)) (hstage0_1 (((cf m h).slots t 1).cast nbuf0_1)) ((spec0 2).stage ((cf m h).slots t 2)) (hstage0_2 (((cf m h).slots t 2).cast nbuf0_2))
    ((spec0 3).stage ((cf m h).slots t 3)) (hstage0_3 (((cf m h).slots t 3).cast nbuf0_3)) ((spec0 4).stage ((cf m h).slots t 4)) (hstage0_4 (((cf m h).slots t 4).cast nbuf0_4))
    ((spec0 5).stage ((cf m h).slots t 5)) (hstage0_5 (((cf m h).slots t 5).cast nbuf0_5))
    (bx m h 0 t) (Y 5) (bw1 m h 0 t) (bb1 m h 0 t) (bw2 m h 0 t) (bb2 m h 0 t) f1 f2 _)
  have hS : Scr m h 0 (t.val + 1) (scr1 m (grid0.coords t) (bw1 m h 0 t) f1) (scr2 m (grid0.coords t) (bw2 m h 0 t) f2) := ⟨f1, f2, hs, t.isLt, rfl, rfl⟩
  isplitl [Ht Ha Hs0 Hs1 H0 H1 H2 H3 H4 H5]
  · isplitl [Ht]; · iexact Ht
    isplitl [Ha]; · iexact Ha
    isplitl [Hs0]; · iexact Hs0
    isplitl [Hs1]; · iexact Hs1
    isplitl [H0]; · iexact H0
    isplitl [H1]; · iexact H1
    isplitl [H2]; · iexact H2
    isplitl [H3]; · iexact H3
    isplitl [H4]; · iexact H4
    iexact H5
  iintro ⟨Ht, Ha, Hs0, Hs1, H0, H1, H2, H3, H4, H5⟩
  isplitl [Ht Ha Hx Hs0 Hs1 Hr]
  · isplitl [Ht Ha Hx]
    · isplitl [Ht]; · iexact Ht
      isplitl [Ha]; · iexact Ha
      iexact Hx
    isplitl [Hs0 Hs1]
    · iexists (scr1 m (grid0.coords t) (bw1 m h 0 t) f1); iexists (scr2 m (grid0.coords t) (bw2 m h 0 t) f2)
      isplitr; · ipureintro; exact hS
      isplitl [Hs0]; · iexact Hs0
      iexact Hs1
    iexact Hr
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  · iexists _; isplitr
    swap; · iexact H5
    ipureintro
    exact ⟨_, _, hS, rfl⟩

/-! ## The region -/

/-- What the TensorCore owes before the SparseCore call, its recorded waits low. -/
abbrev lowO (d : Dev nD) : sProp 𝕄 := iprop(∃ W, ⌜(K (F := F)).WBelow (SparseCore.T d) W 0⌝ ∗ owes (SparseCore.T d) ((K (F := F)).Otc d 0) W)

theorem prefHeld_eq (c : Dev nD) : (Pipeline.prefHeld pre0 c (fun _ => fullShare) (pf m) : sProp 𝕄) = tabs m c := by
  obtain rfl : c = 0 := Subsingleton.elim _ _
  unfold Pipeline.prefHeld
  exact bigSep_univ_eq_bigSepL [(0 : Fin 3), 1, 2] (by decide) (by decide) _

theorem hwaits0 (c : Dev nD) : (levAts (K (F := F)).L (K (F := F)).lev : sProp 𝕄)
    ⊢ RDat.cellsWaits (Pipeline.pin (pcfgs (F := F)) (adm m h)) (rdats m h) (none : HIx 1) 0 c :=
  RDat.cellsWaits_of_cut (Pipeline.pin (pcfgs (F := F)) (adm m h)) (rdats m h) (none : HIx 1) 0 c (L := (K (F := F)).L) (lev := (K (F := F)).lev) 0 ((K (F := F)).Otc c 0)
    (fun _ => rfl) (fun _ _ => Finset.mem_univ _) (fun _ _ => le_rfl)
    (fun g i hg => ⟨Finset.mem_univ _, lt_of_lt_of_le (Nat.succ_pos _) ((K (F := F)).lev_of_Otc_pos hg)⟩)

/-- The first TensorCore call as a segment: entered with its arrays at their entry contents and the tables; left with the
    arrays at some contents the steps may leave, the tables as they were. -/
def region0 : RDat.RegionSeg (pcfgs (F := F)) (adm m h) (rdats m h) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody := body0 m h
  hwaits := hwaits0 m h
  pre c := iprop((rdat0 m h c).arrays (rdat0 m h c).A ∗ tabs m c ∗ lowO (F := F) c)
  post c := iprop((rdat0 m h c).arraysAt (cf m h).N ∗ tabs m c ∗ lowO (F := F) c)
  X _ := iprop(emp)
  Y c := tabs m c
  Z _ := iprop(emp)
  hentry c := by
    have e : (Pipeline.prefHeld (pcfgs (F := F) 0).pre c (fun _ => fullShare) (adm m h 0).1 : sProp 𝕄) = tabs m c := prefHeld_eq m c
    rw [Pipeline.ownSems0_none, e]
    iintro ⟨⟨Ha, Ht, %W, %hW, HO⟩, -, -⟩
    imodintro
    isplitl [Ha]; · iexact Ha
    isplitl [Ht]; · iexact Ht
    isplitl [HO]
    · unfold RDat.owesAt Pipeline.owesWithin RDat.bound
      iexists W; isplitr; · ipureintro; exact fun x hx => Or.inl (hW x hx)
      iexact HO
    isplitr; · iempintro
    iempintro
  hin c := by
    have e : (Pipeline.prefHeld (pcfgs (F := F) 0).pre c (fun _ => fullShare) (adm m h 0).1 : sProp 𝕄) = tabs m c := prefHeld_eq m c
    have e2 : (Pipeline.scopedRest (Pipeline.pin (pcfgs (F := F)) (adm m h) 0).spec c : sProp 𝕄) = _ := scopedRest0_eq c
    rw [e, e2]
    show (_ : sProp 𝕄) ⊢ iprop(tabs m c ∗ scr m h c 0 ∗ others c)
    iintro ⟨-, Ht, ⟨%f1, H1⟩, ⟨%f2, H2⟩, Hr⟩
    isplitl [Ht]; · iexact Ht
    isplitl [H1 H2]
    · iexists f1; iexists f2; isplitr; · ipureintro; trivial
      isplitl [H1]
      · rw [owns_whole_eq]; iexists f1; isplitr; · ipureintro; rfl
        iexact H1
      · rw [owns_whole_eq]; iexists f2; isplitr; · ipureintro; rfl
        iexact H2
    iexact Hr
  hout c := by
    have e2 : (Pipeline.scopedRest (Pipeline.pin (pcfgs (F := F)) (adm m h) 0).spec c : sProp 𝕄) = _ := scopedRest0_eq c
    rw [Pipeline.ownSems0_none, e2]
    show iprop(tabs m c ∗ scr m h c (cf m h).N ∗ others c) ⊢ (_ : sProp 𝕄)
    rw [show scr m h c (cf m h).N = iprop(∃ f1 f2, ⌜Scr m h c (cf m h).N f1 f2⌝ ∗ (∃ g1 : cc0_scratch0.ty.Contents (Elt F), ⌜g1 = f1⌝ ∗ (s0Loc c ↦{fullShare} g1))
      ∗ ∃ g2 : cc0_scratch1.ty.Contents (Elt F), ⌜g2 = f2⌝ ∗ (s1Loc c ↦{fullShare} g2)) by unfold scr; simp only [owns_whole_eq]]
    iintro ⟨Ht, ⟨%f1, %f2, -, ⟨%g1, -, H1⟩, %g2, -, H2⟩, Hr⟩
    isplitl [Ht]; · iexact Ht
    isplitr; · iempintro
    isplitl [H1]
    · iexists g1; iexact H1
    isplitl [H2]
    · iexists g2; iexact H2
    iexact Hr
  hexit c := by
    iintro ⟨Ha, HO, Ht, -⟩
    imodintro
    isplitl [Ha]; · iexact Ha
    isplitl [Ht]; · iexact Ht
    unfold RDat.owesAt Pipeline.owesWithin
    icases HO with ⟨%W, %hW, HO⟩; iexists W
    isplitr
    · ipureintro; intro x hx
      rcases hW hx with h | ⟨w, s, h⟩
      · exact h
      · subst h; exact le_rfl
    iexact HO

end Cert.Proof.Gather

end
-- ==== Proof.RunA.lean ====
/-
  The program's run. @main reshapes the two biases, runs the experts' network on the TensorCore, the SparseCore gather on its
  rows, then the weighted sums on the TensorCore; the arguments come back unchanged, the result holds the weighted sums of
  gathered rows the network may have left (`run_main`), for any float values.
-/
module

public import proofs.«01_k».proof.Proof.Obl
public import proofs.«01_k».proof.Proof.FfnRegion

@[expose] public section

noncomputable section

namespace Cert.Proof.Gather

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg)

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (h : TabOK m) (ρ : Dev nD → PrngReg)

/-- What the network may leave in its result. -/
def RY (d : Dev nD) (Y : Buf (Elt F) (yLoc d)) : Prop := (rdat0 m h d).ArrAt (5 : Fin 6) (cf m h).N Y

/-! ## The ghost state at launch -/

/-- The pipelines' configurations at the tables' contents. -/
abbrev pcf : (p : Fin 2) → Cfg sig (Λ₀) := Pipeline.pin (pcfgs (F := F)) (adm m h)

theorem hinj : Function.Injective (Pipeline.cellOf (nD := nD) (τ := τ) (pcf m h)) := cellOf_inj (adm m h)

/-- The handshakes' rounds, the schedules' rounds, no transfer counted. -/
def u₀ : UU := (initOf (K (F := F)).hsCells (K (F := F)).hsToks,
  (initOf (Pipeline.cells (pcf m h) (hinj m h)) (Pipeline.launchToks (pcf m h) (hinj m h)), 1))

/-- What the TensorCore of device `d` is dealt: its schedules' cells and tokens. -/
def G (d : Dev nD) : sProp 𝕄 := iprop((Pipeline.cellsGhost (pcf m h) EP 0 d ∗ Pipeline.cellsGhost (pcf m h) EP 1 d)
  ∗ (Pipeline.toksInit (pcf m h) EP 0 d ∗ Pipeline.toksInit (pcf m h) EP 1 d))

theorem bigSep_emp' {I : Type} (s : Finset I) : (bigSep s fun _ => iprop(emp)) = (iprop(emp) : sProp 𝕄) := bigSep_emp_const s

theorem bigSep_two (Φ : Fin 2 → sProp 𝕄) : bigSep Finset.univ Φ = iprop(Φ (0 : Fin 2) ∗ Φ (1 : Fin 2)) :=
  bigSep_univ_eq_bigSepL [(0 : Fin 2), (1 : Fin 2)] (by decide) (by decide) Φ

theorem G_eq : (bigSep Finset.univ fun d : Dev nD => G m h d)
    = iprop((bigSep Finset.univ fun c : Dev nD => bigSep Finset.univ fun p : Fin 2 => Pipeline.cellsGhost (pcf m h) EP p c)
      ∗ bigSep Finset.univ fun c : Dev nD => bigSep Finset.univ fun p : Fin 2 => Pipeline.toksInit (pcf m h) EP p c) := by
  rw [show (fun c : Dev nD => bigSep Finset.univ fun p : Fin 2 => Pipeline.cellsGhost (pcf m h) EP p c) = _ from
      funext fun _ => bigSep_two _,
    show (fun c : Dev nD => bigSep Finset.univ fun p : Fin 2 => Pipeline.toksInit (pcf m h) EP p c) = _ from
      funext fun _ => bigSep_two _, ← bigSep_sep']
  rfl

theorem hu₀ : (ownU (u₀ m h) : sProp 𝕄)
    ⊢ |={Set.univ}=> iprop(BI.own (EH (initOf (K (F := F)).hsCells (K (F := F)).hsToks)) ∗ (bigSep Finset.univ fun d : Dev nD => G m h d)
        ∗ bigSep Finset.univ fun thr : Thread nD τ => bigSep Finset.univ fun q : Fin 1 => (P m (RY m h)).x q thr) := by
  unfold u₀
  iintro Hu
  ihave H := (ownU_pair (initOf (K (F := F)).hsCells (K (F := F)).hsToks)
    ((initOf (Pipeline.cells (pcf m h) (hinj m h)) (Pipeline.launchToks (pcf m h) (hinj m h)), 1) : UP × Counters)) $$ Hu
  icases H with ⟨HH, HR⟩
  ihave H2 := (own_pair_emb (embR (nD := nD) (sig := sig) (Ix := HIx 1) (Val := Elt F) (Name := ℕ) (A := UH) (B := UP × Counters) (Lvl := ℕ))
    (initOf (Pipeline.cells (pcf m h) (hinj m h)) (Pipeline.launchToks (pcf m h) (hinj m h))) (1 : Counters)) $$ HR
  icases H2 with ⟨HP, -⟩
  imod (Pipeline.fund_ghost (pcf m h) (EP (F := F)) (hinj m h)) $$ HP with ⟨HC, HT⟩
  imodintro
  isplitl [HH]; · iexact HH
  isplitl [HC HT]
  · rw [G_eq]
    isplitl [HC]; · iexact HC
    iexact HT
  rw [show (bigSep Finset.univ fun thr : Thread nD τ => bigSep Finset.univ fun q : Fin 1 => (P (F := F) m (RY m h)).x q thr) = bigSep Finset.univ fun _ => iprop(emp) from
    bigSep_congr fun _ _ => bigSep_univ_of_subsingleton (0 : Fin 1), bigSep_emp']
  iempintro

/-! ## @main on the TensorCore -/

abbrev xsLoc (d : Dev nD) : Loc nD τ sig := (SparseCore.T d).loc main_arg0
abbrev w1Loc (d : Dev nD) : Loc nD τ sig := (SparseCore.T d).loc main_arg7
abbrev b1Loc (d : Dev nD) : Loc nD τ sig := (SparseCore.T d).loc main_arg8
abbrev w2Loc (d : Dev nD) : Loc nD τ sig := (SparseCore.T d).loc main_arg9
abbrev b2Loc (d : Dev nD) : Loc nD τ sig := (SparseCore.T d).loc main_arg10
abbrev v0Loc (d : Dev nD) : Loc nD τ sig := (SparseCore.T d).loc main_v0
abbrev v1Loc (d : Dev nD) : Loc nD τ sig := (SparseCore.T d).loc main_v1

theorem unscopedBufs_eq (d : Dev nD) (W : (b : Ref sig .tc) → Buf (Elt F) ((d.tc : Thread nD τ).loc b)) :
    (unscopedBufs d W : sProp 𝕄) = iprop((xsLoc d ↦{fullShare} W main_arg0) ∗ (teLoc d ↦{fullShare} W main_arg1) ∗ (acLoc d ↦{fullShare} W main_arg2)
      ∗ (xbLoc d ↦{fullShare} W main_arg3) ∗ (p0Loc d ↦{fullShare} W main_arg4) ∗ (p1Loc d ↦{fullShare} W main_arg5) ∗ (wLoc d ↦{fullShare} W main_arg6)
      ∗ (w1Loc d ↦{fullShare} W main_arg7) ∗ (b1Loc d ↦{fullShare} W main_arg8) ∗ (w2Loc d ↦{fullShare} W main_arg9) ∗ (b2Loc d ↦{fullShare} W main_arg10)
      ∗ (v0Loc d ↦{fullShare} W main_v0) ∗ (v1Loc d ↦{fullShare} W main_v1) ∗ (yLoc d ↦{fullShare} W main_v2) ∗ (gLoc d ↦{fullShare} W main_v3)
      ∗ oLoc d ↦{fullShare} W main_v4) := by
  unfold unscopedBufs
  rw [bigSep_eq_bigSepL_of_eq [main_arg0, main_arg1, main_arg2, main_arg3, main_arg4, main_arg5, main_arg6, main_arg7, main_arg8, main_arg9, main_arg10,
    main_v0, main_v1, main_v2, main_v3, main_v4] (by decide) (by decide)]
  rfl

/-- What is entered and left with beside the arrays of the second TensorCore call. -/
abbrev low (d : Dev nD) : sProp 𝕄 := iprop(∃ W, ⌜(K (F := F)).WBelow (SparseCore.T d) W 8⌝ ∗ owes (SparseCore.T d) (0 : CellTallies nD τ sig (HIx 1)) W)

/-- After the one SparseCore call the TensorCore owes nothing. -/
theorem Otc_one (d : Dev nD) : (K (F := F)).Otc d 1 = 0 := (K (F := F)).Otc_end d le_rfl

instance : (EP (F := F)).LandsIn (upEmb : UEmb _ 𝕄) := by unfold EP; infer_instance

/-! ### The reshapes -/

theorem reshape1 (d : Dev nD) (Φ : PUnit → sProp 𝕄) :
    iprop((iprop(boundary (SparseCore.T d) ∗ (b1Loc d ↦{fullShare} m (b1Loc d)) ∗ v0Loc d ↦{fullShare} b1row m d) -∗ Φ ⟨⟩)
        ∗ boundary (SparseCore.T d) ∗ (b1Loc d ↦{fullShare} m (b1Loc d)) ∗ v0Loc d ↦{fullShare} m (v0Loc d))
      ⊢ wp frame (wpE ((K (F := F)).defs (D (F := F))) 𝒱 (SparseCore.T d) none) Set.univ
        (hlo rfl (StableHlo.reshape main_arg8 main_v0 (rfl : (.f32 : EltTy) = .f32) shapeCasts_S8x2048_S8x1x2048) (fun _ => .ret ⟨⟩)) Φ := by
  have hh : ∀ W : Valuation τ sig (Elt F), (StableHlo.held (SparseCore.T d) ({Proc.devRef .tc main_arg8, Proc.devRef .tc main_v0} : Finset (DevRef τ sig)) W : sProp 𝕄)
      = iprop((b1Loc d ↦{fullShare} W (Proc.devRef .tc main_arg8)) ∗ v0Loc d ↦{fullShare} W (Proc.devRef .tc main_v0)) := fun W => by
    unfold StableHlo.held
    rw [SparseCore.bigSep_insert' (by decide), bigSep_singleton]
  have hw := StableHlo.wp_hlo_within (Ix := HIx 1) (Name := ℕ) (U := UU) (Lvl := ℕ) (defs := (K (F := F)).defs (D (F := F))) 𝒱 (SparseCore.T d) none Set.univ
    (hp := rfl) (op := StableHlo.reshape main_arg8 main_v0 (rfl : (.f32 : EltTy) = .f32) shapeCasts_S8x2048_S8x1x2048) (k := fun _ => .ret (⟨⟩ : PUnit))
    (S := {Proc.devRef .tc main_arg8, Proc.devRef .tc main_v0}) (Finset.Subset.refl _) (V := fun b => m (d, b)) (Q := Φ)
  rw [hh, hh, StableHlo.reshape_result_ne (h := (by decide : main_arg8 ≠ main_v0)), StableHlo.reshape_result'] at hw
  simp only [wp_ret] at hw
  iintro ⟨Hk, Hb, H1, H2⟩
  iapply hw $$ [Hb H1 H2]
  · isplitl [Hb]; · iexact Hb
    isplitl [H1]; · iexact H1
    iexact H2
  iintro H
  imodintro
  iapply Hk; iexact H

theorem reshape2 (d : Dev nD) (Φ : PUnit → sProp 𝕄) :
    iprop((iprop(boundary (SparseCore.T d) ∗ (b2Loc d ↦{fullShare} m (b2Loc d)) ∗ v1Loc d ↦{fullShare} b2row m d) -∗ Φ ⟨⟩)
        ∗ boundary (SparseCore.T d) ∗ (b2Loc d ↦{fullShare} m (b2Loc d)) ∗ v1Loc d ↦{fullShare} m (v1Loc d))
      ⊢ wp frame (wpE ((K (F := F)).defs (D (F := F))) 𝒱 (SparseCore.T d) none) Set.univ
        (hlo rfl (StableHlo.reshape main_arg10 main_v1 (rfl : (.f32 : EltTy) = .f32) shapeCasts_S8x1024_S8x1x1024) (fun _ => .ret ⟨⟩)) Φ := by
  have hh : ∀ W : Valuation τ sig (Elt F), (StableHlo.held (SparseCore.T d) ({Proc.devRef .tc main_arg10, Proc.devRef .tc main_v1} : Finset (DevRef τ sig)) W : sProp 𝕄)
      = iprop((b2Loc d ↦{fullShare} W (Proc.devRef .tc main_arg10)) ∗ v1Loc d ↦{fullShare} W (Proc.devRef .tc main_v1)) := fun W => by
    unfold StableHlo.held
    rw [SparseCore.bigSep_insert' (by decide), bigSep_singleton]
  have hw := StableHlo.wp_hlo_within (Ix := HIx 1) (Name := ℕ) (U := UU) (Lvl := ℕ) (defs := (K (F := F)).defs (D (F := F))) 𝒱 (SparseCore.T d) none Set.univ
    (hp := rfl) (op := StableHlo.reshape main_arg10 main_v1 (rfl : (.f32 : EltTy) = .f32) shapeCasts_S8x1024_S8x1x1024) (k := fun _ => .ret (⟨⟩ : PUnit))
    (S := {Proc.devRef .tc main_arg10, Proc.devRef .tc main_v1}) (Finset.Subset.refl _) (V := fun b => m (d, b)) (Q := Φ)
  rw [hh, hh, StableHlo.reshape_result_ne (h := (by decide : main_arg10 ≠ main_v1)), StableHlo.reshape_result'] at hw
  simp only [wp_ret] at hw
  iintro ⟨Hk, Hb, H1, H2⟩
  iapply hw $$ [Hb H1 H2]
  · isplitl [Hb]; · iexact Hb
    isplitl [H1]; · iexact H1
    iexact H2
  iintro H
  imodintro
  iapply Hk; iexact H

/-! ### The first TensorCore call -/

theorem V0_ne (d : Dev nD) (b : Ref sig .tc) (h0 : b ≠ main_v0) (h1 : b ≠ main_v1) : V0 m d b = m ((d.tc : Thread nD τ).loc b) := by
  unfold V0; rw [Function.update_of_ne h1, Function.update_of_ne h0]
theorem V0_v0 (d : Dev nD) : V0 m d main_v0 = b1row m d := by
  unfold V0; rw [Function.update_of_ne (by decide), Function.update_self]
theorem V0_v1 (d : Dev nD) : V0 m d main_v1 = b2row m d := by
  unfold V0; rw [Function.update_self]

theorem share0 (d : Dev nD) : ∀ w, (rdats m h 0 d).share w = fullShare := fun w => by
  unfold RDat.share; split <;> rfl

/-- The arrays at entry, listed. -/
theorem enter0 (d : Dev nD) : iprop((xsLoc d ↦{fullShare} m (xsLoc d)) ∗ (w1Loc d ↦{fullShare} m (w1Loc d)) ∗ (v0Loc d ↦{fullShare} b1row m d)
      ∗ (w2Loc d ↦{fullShare} m (w2Loc d)) ∗ (v1Loc d ↦{fullShare} b2row m d) ∗ yLoc d ↦{fullShare} m (yLoc d))
    ⊢ ((rdat0 m h d).arrays (rdat0 m h d).A : sProp 𝕄) := by
  have e := RDat.arrays_eq (pcfgs (F := F)) (adm m h) (rdats m h) (p := 0) d arr_whole0 (share0 m h d) (rdat0 m h d).A
  have e2 : ((rdat0 m h d).arrays (rdat0 m h d).A : sProp 𝕄) = _ := e.trans (bigSep_W0 _)
  rw [e2]
  show _ ⊢ iprop((xsLoc d ↦{fullShare} V0 m d main_arg0) ∗ (w1Loc d ↦{fullShare} V0 m d main_arg7) ∗ (v0Loc d ↦{fullShare} V0 m d main_v0)
      ∗ (w2Loc d ↦{fullShare} V0 m d main_arg9) ∗ (v1Loc d ↦{fullShare} V0 m d main_v1) ∗ yLoc d ↦{fullShare} V0 m d main_v2)
  rw [V0_ne m d main_arg0 (by decide) (by decide), V0_ne m d main_arg7 (by decide) (by decide), V0_v0, V0_ne m d main_arg9 (by decide) (by decide), V0_v1,
    V0_ne m d main_v2 (by decide) (by decide)]

/-- The arrays as the call leaves them: the inputs as they were, the result at something the steps may leave. -/
theorem exit0 (d : Dev nD) : ((rdat0 m h d).arraysAt (cf m h).N : sProp 𝕄)
    ⊢ iprop((xsLoc d ↦{fullShare} m (xsLoc d)) ∗ (w1Loc d ↦{fullShare} m (w1Loc d)) ∗ (w2Loc d ↦{fullShare} m (w2Loc d)) ∗ yAny (RY m h) d fullShare) := by
  have e := RDat.arraysAt_eq (pcfgs (F := F)) (adm m h) (rdats m h) (p := 0) d arr_whole0 (share0 m h d) (cf m h).N
  have e2 : ((rdat0 m h d).arraysAt (cf m h).N : sProp 𝕄) = _ := e.trans (bigSep_W0 _)
  rw [e2]
  have a0 : (rdat0 m h d).ArrAt (0 : Fin 6) (cf m h).N = fun f => f = V0 m d main_arg0 := (rdat0 m h d).ArrAt_in (0 : Fin 6) rfl _
  have a1 : (rdat0 m h d).ArrAt (1 : Fin 6) (cf m h).N = fun f => f = V0 m d main_arg7 := (rdat0 m h d).ArrAt_in (1 : Fin 6) rfl _
  have a3 : (rdat0 m h d).ArrAt (3 : Fin 6) (cf m h).N = fun f => f = V0 m d main_arg9 := (rdat0 m h d).ArrAt_in (3 : Fin 6) rfl _
  rw [V0_ne m d _ (by decide) (by decide)] at a0 a1 a3
  show iprop((∃ f, ⌜(rdat0 m h d).ArrAt (0 : Fin 6) (cf m h).N f⌝ ∗ (xsLoc d ↦{fullShare} f)) ∗ (∃ f, ⌜(rdat0 m h d).ArrAt (1 : Fin 6) (cf m h).N f⌝ ∗ (w1Loc d ↦{fullShare} f))
    ∗ (∃ f, ⌜(rdat0 m h d).ArrAt (2 : Fin 6) (cf m h).N f⌝ ∗ (v0Loc d ↦{fullShare} f)) ∗ (∃ f, ⌜(rdat0 m h d).ArrAt (3 : Fin 6) (cf m h).N f⌝ ∗ (w2Loc d ↦{fullShare} f))
    ∗ (∃ f, ⌜(rdat0 m h d).ArrAt (4 : Fin 6) (cf m h).N f⌝ ∗ (v1Loc d ↦{fullShare} f)) ∗ (∃ f, ⌜(rdat0 m h d).ArrAt (5 : Fin 6) (cf m h).N f⌝ ∗ (yLoc d ↦{fullShare} f))) ⊢ (_ : sProp 𝕄)
  rw [a0, a1, a3]
  iintro ⟨⟨%f0, %e0, H0⟩, ⟨%f1, %e1, H1⟩, -, ⟨%f3, %e3, H3⟩, -, ⟨%f5, %e5, H5⟩⟩
  subst e0 e1 e3
  isplitl [H0]; · iexact H0
  isplitl [H1]; · iexact H1
  isplitl [H3]; · iexact H3
  iexists f5; isplitr; · ipureintro; exact e5
  iexact H5

theorem region0_wp (d : Dev nD) (Φ : PUnit → sProp 𝕄) :
    iprop((iprop(boundary (SparseCore.T d) ∗ (rdat0 m h d).arraysAt (cf m h).N ∗ tabs m d ∗ lowO (F := F) d) -∗ Φ ⟨⟩)
        ∗ boundary (SparseCore.T d) ∗ ((rdat0 m h d).arrays (rdat0 m h d).A ∗ tabs m d ∗ lowO (F := F) d) ∗ levAts (K (F := F)).L (K (F := F)).lev
        ∗ Pipeline.cellsGhost (pcf m h) EP 0 d ∗ Pipeline.toksInit (pcf m h) EP 0 d)
      ⊢ wp frame (wpE (D (F := F)) 𝒱 (SparseCore.T d) none) Set.univ (.op (.customCall (Pipeline.entry (0 : Fin 2)) ()) fun _ => .ret ⟨⟩) Φ := by
  have hr := RDat.RegionSeg.wp (pcfgs (F := F)) (adm m h) (rdats m h) (none : HIx 1) (hinj m h) (EP (F := F)) defs₀ 𝒱₀ (K (F := F)).L (K (F := F)).lev
    (region0 m h) d none (fun _ h => nomatch h) (α := PUnit) (fun _ => .ret ⟨⟩) Φ
  rw [show (region0 m h).pre d = (iprop((rdat0 m h d).arrays (rdat0 m h d).A ∗ tabs m d ∗ lowO (F := F) d) : sProp 𝕄) from rfl,
    show (region0 m h).post d = (iprop((rdat0 m h d).arraysAt (cf m h).N ∗ tabs m d ∗ lowO (F := F) d) : sProp 𝕄) from rfl] at hr
  refine BI.Entails.trans ?_ hr
  simp only [wp_ret]
  show (_ : sProp 𝕄) ⊢ _
  iintro ⟨Hk, Hb, Hp, Hl, HC, HT⟩
  isplitl [Hk]
  · iintro H
    imodintro
    iapply Hk; iexact H
  isplitl [Hb]; · iexact Hb
  isplitl [Hp]; · iexact Hp
  isplitl [Hl]; · iexact Hl
  isplitl [HC]; · iexact HC
  iexact HT

theorem region0_run (d : Dev nD) (Φ : PUnit → sProp 𝕄) :
    iprop((iprop(boundary (SparseCore.T d) ∗ (rdat0 m h d).arraysAt (cf m h).N ∗ tabs m d ∗ lowO (F := F) d) -∗ Φ ⟨⟩)
        ∗ boundary (SparseCore.T d) ∗ ((rdat0 m h d).arrays (rdat0 m h d).A ∗ tabs m d ∗ lowO (F := F) d) ∗ levAts (K (F := F)).L (K (F := F)).lev
        ∗ Pipeline.cellsGhost (pcf m h) EP 0 d ∗ Pipeline.toksInit (pcf m h) EP 0 d)
      ⊢ wp frame (wpE ((K (F := F)).defs (D (F := F))) 𝒱 (SparseCore.T d) none) Set.univ (Prog.lift (.customCall (SparseCore.inner (Pipeline.entry 0)) ())) Φ := by
  have e : (SparseCore.liftProg (Q := 1) (.op (.customCall (Pipeline.entry (0 : Fin 2)) ()) fun _ => .ret ⟨⟩ :
      Prog (TpuEff nD τ sig (Elt F) (ΛP (F := F)) .tc) PUnit)) = Prog.lift (.customCall (SparseCore.inner (Pipeline.entry 0)) ()) := by
    rw [SparseCore.liftProg_op]; rfl
  rw [← e]
  exact (region0_wp m h d Φ).trans ((K (F := F)).wp_liftProg (D (F := F)) 𝒱 (SparseCore.T d) Set.univ none _ Φ)

/-! ### The second TensorCore call -/

variable (g : (d : Dev nD) → Buf (Elt F) (gLoc d))

theorem enter1 (d : Dev nD) : iprop((gLoc d ↦{fullShare} g d) ∗ (wLoc d ↦{fullShare} m (wLoc d)) ∗ oLoc d ↦{fullShare} m (oLoc d))
    ⊢ ((dat2 m g d).arrays ((dat2 m g d).arrAt · 0) : sProp 𝕄) := by
  have hs := Dat.arrays_split_shared (dat2 m g d) sharedIn2 arr_whole2 (fun _ _ => rfl) (VR m g d) ((dat2 m g d).arrAt · 0) (fun _ => rfl)
  refine BI.Entails.trans ?_ hs
  unfold Pipeline.arrBufs
  rw [show Finset.univ.image (Pipeline.arrRef cfg2.spec) = {main_v3, main_arg6, main_v4} by decide,
    SparseCore.bigSep_insert' (by decide), SparseCore.bigSep_insert' (by decide), bigSep_singleton]
  have ev3 : VR m g d main_v3 = g d := by unfold VR; rw [Function.update_self]
  have ew : VR m g d main_arg6 = m (wLoc d) := by unfold VR; rw [Function.update_of_ne (by decide)]
  have eo : VR m g d main_v4 = m (oLoc d) := by unfold VR; rw [Function.update_of_ne (by decide)]
  rw [ev3, ew, eo]
  show (_ : sProp 𝕄) ⊢ _
  iintro H; iexact H

theorem exit1 (d : Dev nD) : ((dat2 m g d).arrays ((dat2 m g d).arrAt · cfg2.N) : sProp 𝕄)
    ⊢ iprop((wLoc d ↦{Pipeline.shareOf spec2 2} m (wLoc d)) ∗ oLoc d ↦{fullShare} oVal (g d) (m (wLoc d))) := by
  have e2 : (dat2 m g d).arrAt (2 : Fin 4) cfg2.N = m (wLoc d) := by
    refine ((dat2 m g d).arrAt_in (2 : Fin 4) rfl _).trans ?_
    show VR m g d main_arg6 = _
    unfold VR; rw [Function.update_of_ne (by decide)]
  have e3 : (dat2 m g d).arrAt (3 : Fin 4) cfg2.N = oVal (g d) (m (wLoc d)) := out_eq m g d
  have s2 : (Memref.whole main_arg6).view.set = Finset.univ := (Memref.isWhole_whole _).set_eq_univ
  have s3 : (Memref.whole main_v4).view.set = Finset.univ := (Memref.isWhole_whole _).set_eq_univ
  have h2 : (iprop(wLoc d ↦[(Memref.whole main_arg6).view.set]{Pipeline.shareOf spec2 2} (dat2 m g d).arrAt (2 : Fin 4) cfg2.N) : sProp 𝕄)
      = iprop(wLoc d ↦{Pipeline.shareOf spec2 2} m (wLoc d)) := by rw [s2, e2]
  have h3 : (iprop(oLoc d ↦[(Memref.whole main_v4).view.set]{fullShare} (dat2 m g d).arrAt (3 : Fin 4) cfg2.N) : sProp 𝕄)
      = iprop(oLoc d ↦{fullShare} oVal (g d) (m (wLoc d))) := by rw [s3, e3]
  rw [← h2, ← h3]
  unfold Dat.arrays
  refine (Entails.of_eq (bigSep_W2 _)).trans ?_
  iintro ⟨-, -, H2, H3⟩
  isplitl [H2]; · iexact H2
  iexact H3

theorem region1_wp (d : Dev nD) (Φ : PUnit → sProp 𝕄) :
    iprop((iprop(boundary (SparseCore.T d) ∗ (dat2 m g d).arrays ((dat2 m g d).arrAt · cfg2.N) ∗ low (F := F) d) -∗ Φ ⟨⟩)
        ∗ boundary (SparseCore.T d) ∗ ((dat2 m g d).arrays ((dat2 m g d).arrAt · 0) ∗ low (F := F) d) ∗ levAts (K (F := F)).L (K (F := F)).lev
        ∗ Pipeline.cellsGhost (pcf m h) EP 1 d ∗ Pipeline.toksInit (pcf m h) EP 1 d)
      ⊢ wp frame (wpE (D (F := F)) 𝒱 (SparseCore.T d) none) Set.univ (.op (.customCall (Pipeline.entry (1 : Fin 2)) ()) fun _ => .ret ⟨⟩) Φ := by
  have hr := Pipeline.RegionSeg.wp (pcfgs (F := F)) (adm m h) (dats m h g) (none : HIx 1) (hinj m h) (EP (F := F)) defs₀ 𝒱₀ (K (F := F)).L (K (F := F)).lev
    (region m h g) d none (fun _ h => nomatch h) (α := PUnit) (fun _ => .ret ⟨⟩) Φ
  rw [show (region m h g).pre d = (iprop((dat2 m g d).arrays ((dat2 m g d).arrAt · 0) ∗ low (F := F) d) : sProp 𝕄) from rfl,
    show (region m h g).post d = (iprop((dat2 m g d).arrays ((dat2 m g d).arrAt · cfg2.N) ∗ low (F := F) d) : sProp 𝕄) from rfl] at hr
  refine BI.Entails.trans ?_ hr
  simp only [wp_ret]
  show (_ : sProp 𝕄) ⊢ _
  iintro ⟨Hk, Hb, Hp, Hl, HC, HT⟩
  isplitl [Hk]
  · iintro H
    imodintro
    iapply Hk; iexact H
  isplitl [Hb]; · iexact Hb
  isplitl [Hp]; · iexact Hp
  isplitl [Hl]; · iexact Hl
  isplitl [HC]; · iexact HC
  iexact HT

theorem region1_run (d : Dev nD) (Φ : PUnit → sProp 𝕄) :
    iprop((iprop(boundary (SparseCore.T d) ∗ (dat2 m g d).arrays ((dat2 m g d).arrAt · cfg2.N) ∗ low (F := F) d) -∗ Φ ⟨⟩)
        ∗ boundary (SparseCore.T d) ∗ ((dat2 m g d).arrays ((dat2 m g d).arrAt · 0) ∗ low (F := F) d) ∗ levAts (K (F := F)).L (K (F := F)).lev
        ∗ Pipeline.cellsGhost (pcf m h) EP 1 d ∗ Pipeline.toksInit (pcf m h) EP 1 d)
      ⊢ wp frame (wpE ((K (F := F)).defs (D (F := F))) 𝒱 (SparseCore.T d) none) Set.univ (Prog.lift (.customCall (SparseCore.inner (Pipeline.entry 1)) ())) Φ := by
  have e : (SparseCore.liftProg (Q := 1) (.op (.customCall (Pipeline.entry (1 : Fin 2)) ()) fun _ => .ret ⟨⟩ :
      Prog (TpuEff nD τ sig (Elt F) (ΛP (F := F)) .tc) PUnit)) = Prog.lift (.customCall (SparseCore.inner (Pipeline.entry 1)) ()) := by
    rw [SparseCore.liftProg_op]; rfl
  rw [← e]
  exact (region1_wp m h g d Φ).trans ((K (F := F)).wp_liftProg (D (F := F)) 𝒱 (SparseCore.T d) Set.univ none _ Φ)

/-! ### Between the calls -/

/-- Before the SparseCore call: what is owed, and the rest of the state back. -/
theorem tcSt_in (d : Dev nD) : (K (F := F)).tcSt EH d 0 ⊢ (iprop(lowO (F := F) d ∗ (lowO (F := F) d -∗ (K (F := F)).tcSt EH d 0)) : sProp 𝕄) := by
  unfold SparseCore.Cfg.tcSt lowO
  iintro ⟨HO, Hst⟩
  isplitl [HO]; · iexact HO
  iintro HO
  isplitl [HO]; · iexact HO
  iexact Hst

/-- The TensorCore's state after the SparseCore call: it owes nothing, and what it has waited at is low. -/
theorem tcSt_out (d : Dev nD) : (K (F := F)).tcSt EH d 1 ⊢ (iprop(low (F := F) d ∗ (low (F := F) d -∗ (K (F := F)).tcSt EH d 1)) : sProp 𝕄) := by
  unfold SparseCore.Cfg.tcSt low
  rw [Otc_one]
  iintro ⟨HO, Hst⟩
  isplitl [HO]; · iexact HO
  iintro HO
  isplitl [HO]; · iexact HO
  iexact Hst

end Cert.Proof.Gather

end
-- ==== Proof.Run.lean ====
/-
  The program's run. @main reshapes the two biases, runs the experts' network on the TensorCore, the SparseCore gather on its
  rows, then the weighted sums on the TensorCore; the arguments come back unchanged, the result holds the weighted sums of
  gathered rows the network may have left (`run_main`), for any float values.
-/
module

public import proofs.«01_k».proof.Proof.RunA

@[expose] public section

noncomputable section

namespace Cert.Proof.Gather

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg)

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (h : TabOK m) (ρ : Dev nD → PrngReg)

/-- What @main leaves: the arguments as at launch; the result the weighted sums of some rows the gather may have left. -/
def FIN (d : Dev nD) : sProp 𝕄 := iprop(((xsLoc d ↦{fullShare} m (xsLoc d)) ∗ tabs m d ∗ (p0Loc d ↦{fullShare} m (p0Loc d)) ∗ (p1Loc d ↦{fullShare} m (p1Loc d))
    ∗ (w1Loc d ↦{fullShare} m (w1Loc d)) ∗ (b1Loc d ↦{fullShare} m (b1Loc d)) ∗ (w2Loc d ↦{fullShare} m (w2Loc d)) ∗ (b2Loc d ↦{fullShare} m (b2Loc d))
    ∗ wLoc d ↦{Pipeline.shareOf spec2 2} m (wLoc d))
  ∗ ∃ g : Buf (Elt F) (gLoc d), ⌜∀ i, Good m (RY m h) d i (g i)⌝ ∗ oLoc d ↦{fullShare} oVal g (m (wLoc d)))

/-- @main on device `d`'s TensorCore: the reshapes, the network, the gather, the weighted sums. -/
theorem hmain (κ : GSem nD τ sig → ℕ) (d : Dev nD) :
    iprop((K (F := F)).ctx EH (P m (RY m h)) κ ∗ (K (F := F)).tcSt EH d 0 ∗ (K (F := F)).tcRes m ρ d ∗ G m h d)
      ⊢ wp frame (wpE ((K (F := F)).defs (D (F := F))) 𝒱 (SparseCore.T d) none) Set.univ (main d)
          fun _ => iprop((K (F := F)).tcSt EH d 1 ∗ FIN m h d ∗ (K (F := F)).tcEnd d) := by
  obtain rfl : d = 0 := Subsingleton.elim _ _
  unfold SparseCore.Cfg.tcRes SparseCore.Cfg.tcEnd
  rw [unscopedBufs_eq]
  simp only [main, wp_bind, wp_pure]
  unfold G
  iintro ⟨#Hctx, Hst, ⟨Hb, ⟨Hxs, Hte, Hac, Hxb, Hp0, Hp1, Hw, Hw1, Hb1, Hw2, Hb2, Hv0, Hv1, Hy, Hg, Ho⟩, Hts, -⟩, ⟨HC0, HC1⟩, HT0, HT1⟩
  ihave Hlev := (SparseCore.Cfg.ctx_levAts κ) $$ Hctx
  iapply (reshape1 m 0)
  isplitr [Hb Hb1 Hv0]
  swap
  · isplitl [Hb]; · iexact Hb
    isplitl [Hb1]; · iexact Hb1
    iexact Hv0
  iintro ⟨Hb, Hb1, Hv0⟩
  iapply (reshape2 m 0)
  isplitr [Hb Hb2 Hv1]
  swap
  · isplitl [Hb]; · iexact Hb
    isplitl [Hb2]; · iexact Hb2
    iexact Hv1
  iintro ⟨Hb, Hb2, Hv1⟩
  ihave Ha := (enter0 m h 0) $$ [Hxs Hw1 Hv0 Hw2 Hv1 Hy]
  · isplitl [Hxs]; · iexact Hxs
    isplitl [Hw1]; · iexact Hw1
    isplitl [Hv0]; · iexact Hv0
    isplitl [Hw2]; · iexact Hw2
    isplitl [Hv1]; · iexact Hv1
    iexact Hy
  ihave Hst' := (tcSt_in 0) $$ Hst
  icases Hst' with ⟨HO, Hst⟩
  iapply (region0_run m h 0)
  isplitr [Hb Ha Hte Hac Hxb HO HC0 HT0]
  swap
  · isplitl [Hb]; · iexact Hb
    isplitl [Ha Hte Hac Hxb HO]
    · isplitl [Ha]; · iexact Ha
      isplitl [Hte Hac Hxb]
      · isplitl [Hte]; · iexact Hte
        isplitl [Hac]; · iexact Hac
        iexact Hxb
      iexact HO
    isplitr; · iexact Hlev
    isplitl [HC0]; · iexact HC0
    iexact HT0
  iintro ⟨Hb, Ha, Htabs, HO⟩
  ihave Ha' := (exit0 m h 0) $$ Ha
  icases Ha' with ⟨Hxs, Hw1, Hw2, Hy⟩
  ihave Hst := Hst $$ HO
  iapply ((K (F := F)).wp_run (D (F := F)) 𝒱 (EH := EH) (P := P m (RY m h)) κ 0 0) $$ [- ]
  isplitr; · iexact Hctx
  isplitl [Hst]; · iexact Hst
  isplitl [Hy Hp0 Hp1 Hg]
  · iapply (st0_in m (RY m h) 0)
    isplitl [Hy]; · iexact Hy
    isplitl [Hp0]; · iexact Hp0
    isplitl [Hp1]; · iexact Hp1
    iexact Hg
  iintro ⟨Hst, Hdn⟩
  ihave Hdn' := (dn0_out m (RY m h) 0) $$ Hdn
  icases Hdn' with ⟨Hp0, Hp1, %g, %hg, Hg⟩
  ihave Ha := (enter1 m (Function.update (fun d => m (gLoc d)) 0 g) 0) $$ [Hg Hw Ho]
  · rw [Function.update_self]
    isplitl [Hg]; · iexact Hg
    isplitl [Hw]; · iexact Hw
    iexact Ho
  rw [show ((0 : Fin 1) : ℕ) + 1 = 1 from rfl]
  ihave Hst' := (tcSt_out 0) $$ Hst
  icases Hst' with ⟨HO, Hst⟩
  iapply (region1_run m h (Function.update (fun d => m (gLoc d)) 0 g) 0)
  isplitr [Hb Ha HO HC1 HT1]
  swap
  · isplitl [Hb]; · iexact Hb
    isplitl [Ha HO]
    · isplitl [Ha]; · iexact Ha
      iexact HO
    isplitr; · iexact Hlev
    isplitl [HC1]; · iexact HC1
    iexact HT1
  iintro ⟨Hb, Ha, HO⟩
  imodintro
  isplitl [HO Hst]
  · iapply Hst; iexact HO
  ihave Ha' := (exit1 m (Function.update (fun d => m (gLoc d)) 0 g) 0) $$ Ha
  rw [Function.update_self]
  icases Ha' with ⟨Hw, Ho⟩
  isplitr [Hb Hts]
  swap
  · isplitl [Hb]; · iexact Hb
    iexact Hts
  unfold FIN
  isplitr [Ho]
  swap
  · iexists g
    isplitr; · ipureintro; exact fun i => hg i (Finset.mem_univ i)
    iexact Ho
  isplitl [Hxs]; · iexact Hxs
  isplitl [Htabs]; · iexact Htabs
  isplitl [Hp0]; · iexact Hp0
  isplitl [Hp1]; · iexact Hp1
  isplitl [Hw1]; · iexact Hw1
  isplitl [Hb1]; · iexact Hb1
  isplitl [Hw2]; · iexact Hw2
  isplitl [Hb2]; · iexact Hb2
  iexact Hw

/-! ## What the final memory holds -/

/-- Every argument of device `d` is as at launch. -/
def Kept (d : Dev nD) (M : (ℓ : Loc nD τ sig) → Buf (Elt F) ℓ) : Prop :=
  M (xsLoc d) = m (xsLoc d) ∧ M (teLoc d) = m (teLoc d) ∧ M (acLoc d) = m (acLoc d) ∧ M (xbLoc d) = m (xbLoc d)
    ∧ M (p0Loc d) = m (p0Loc d) ∧ M (p1Loc d) = m (p1Loc d) ∧ M (wLoc d) = m (wLoc d)
    ∧ M (w1Loc d) = m (w1Loc d) ∧ M (b1Loc d) = m (b1Loc d) ∧ M (w2Loc d) = m (w2Loc d) ∧ M (b2Loc d) = m (b2Loc d)

/-- The facts of the final memory of device `d`. -/
def fq (d : Dev nD) (s' : Phys nD τ sig (Elt F)) : Prop :=
  (∃ g : Buf (Elt F) (gLoc d), (∀ i, Good m (RY m h) d i (g i)) ∧ s'.mem.mem (oLoc d) = oVal g (m (wLoc d))) ∧ Kept m d s'.mem.mem

theorem hfin (d : Dev nD) (s' : Phys nD τ sig (Elt F)) : iprop(FIN m h d ∗ SI s') ⊢ (⌜fq m h d s'⌝ : sProp 𝕄) := by
  unfold FIN
  iintro ⟨⟨⟨Hxs, ⟨Hte, Hac, Hxb⟩, Hp0, Hp1, Hw1, Hb1, Hw2, Hb2, Hw⟩, %g, %hg, Ho⟩, HSI⟩
  ihave H := (persistent_entails_right (SI_pointsTo_agree (st := s') (ℓ := xsLoc d) (I := Finset.univ) (q := fullShare) (f := m (xsLoc d)))) $$ [HSI Hxs]
  · isplitl [HSI] <;> iassumption
  icases H with ⟨%hxs, HSI, -⟩
  ihave H := (persistent_entails_right (SI_pointsTo_agree (st := s') (ℓ := teLoc d) (I := Finset.univ) (q := fullShare) (f := m (teLoc d)))) $$ [HSI Hte]
  · isplitl [HSI] <;> iassumption
  icases H with ⟨%hte, HSI, -⟩
  ihave H := (persistent_entails_right (SI_pointsTo_agree (st := s') (ℓ := acLoc d) (I := Finset.univ) (q := fullShare) (f := m (acLoc d)))) $$ [HSI Hac]
  · isplitl [HSI] <;> iassumption
  icases H with ⟨%hac, HSI, -⟩
  ihave H := (persistent_entails_right (SI_pointsTo_agree (st := s') (ℓ := xbLoc d) (I := Finset.univ) (q := fullShare) (f := m (xbLoc d)))) $$ [HSI Hxb]
  · isplitl [HSI] <;> iassumption
  icases H with ⟨%hxb, HSI, -⟩
  ihave H := (persistent_entails_right (SI_pointsTo_agree (st := s') (ℓ := p0Loc d) (I := Finset.univ) (q := fullShare) (f := m (p0Loc d)))) $$ [HSI Hp0]
  · isplitl [HSI] <;> iassumption
  icases H with ⟨%hp0, HSI, -⟩
  ihave H := (persistent_entails_right (SI_pointsTo_agree (st := s') (ℓ := p1Loc d) (I := Finset.univ) (q := fullShare) (f := m (p1Loc d)))) $$ [HSI Hp1]
  · isplitl [HSI] <;> iassumption
  icases H with ⟨%hp1, HSI, -⟩
  ihave H := (persistent_entails_right (SI_pointsTo_agree (st := s') (ℓ := wLoc d) (I := Finset.univ) (q := Pipeline.shareOf spec2 2) (f := m (wLoc d)))) $$ [HSI Hw]
  · isplitl [HSI] <;> iassumption
  icases H with ⟨%hw, HSI, -⟩
  ihave H := (persistent_entails_right (SI_pointsTo_agree (st := s') (ℓ := w1Loc d) (I := Finset.univ) (q := fullShare) (f := m (w1Loc d)))) $$ [HSI Hw1]
  · isplitl [HSI] <;> iassumption
  icases H with ⟨%hw1, HSI, -⟩
  ihave H := (persistent_entails_right (SI_pointsTo_agree (st := s') (ℓ := b1Loc d) (I := Finset.univ) (q := fullShare) (f := m (b1Loc d)))) $$ [HSI Hb1]
  · isplitl [HSI] <;> iassumption
  icases H with ⟨%hb1, HSI, -⟩
  ihave H := (persistent_entails_right (SI_pointsTo_agree (st := s') (ℓ := w2Loc d) (I := Finset.univ) (q := fullShare) (f := m (w2Loc d)))) $$ [HSI Hw2]
  · isplitl [HSI] <;> iassumption
  icases H with ⟨%hw2, HSI, -⟩
  ihave H := (persistent_entails_right (SI_pointsTo_agree (st := s') (ℓ := b2Loc d) (I := Finset.univ) (q := fullShare) (f := m (b2Loc d)))) $$ [HSI Hb2]
  · isplitl [HSI] <;> iassumption
  icases H with ⟨%hb2, HSI, -⟩
  ihave H := (SI_pointsTo_agree (st := s') (ℓ := oLoc d) (I := Finset.univ) (q := fullShare) (f := oVal g (m (wLoc d)))) $$ [HSI Ho]
  · isplitl [HSI] <;> iassumption
  icases H with %ho
  ipureintro
  exact ⟨⟨g, hg, funext fun i => ho i (Finset.mem_univ i)⟩, funext fun i => hxs i (Finset.mem_univ i), funext fun i => hte i (Finset.mem_univ i), funext fun i => hac i (Finset.mem_univ i), funext fun i => hxb i (Finset.mem_univ i), funext fun i => hp0 i (Finset.mem_univ i), funext fun i => hp1 i (Finset.mem_univ i), funext fun i => hw i (Finset.mem_univ i), funext fun i => hw1 i (Finset.mem_univ i), funext fun i => hb1 i (Finset.mem_univ i), funext fun i => hw2 i (Finset.mem_univ i), funext fun i => hb2 i (Finset.mem_univ i)⟩

/-! ## The run -/

/-- The final memory: on every device the result is the weighted sum of rows the gather may have left, the arguments are as
    at launch; every semaphore counter is zero. -/
def QC : PUnit × MemSt nD τ sig (Elt F) → Prop := fun r =>
  (∀ c : Dev nD, (∃ g : Buf (Elt F) (gLoc c), (∀ i, Good m (RY m h) c i (g i)) ∧ r.2.mem (oLoc c) = oVal g (m (wLoc c))) ∧ Kept m c r.2.mem)
    ∧ r.2.sem = fun _ => 0

/-- Every execution of the program from in-range positions, experts and blocks ends so. -/
theorem run_main (hpre : PosOK m) : θ_run (defs (F := F)) (threads (F := F)) ⟨m, fun _ => 0, ρ⟩ (QC m h) :=
  SparseCore.Cfg.θ_run_sc_quiescent (K := K (F := F)) (D := D (F := F)) (𝒱 := 𝒱) (EH := EH) (P := P m (RY m h)) (A := ∅) facts v₀
    (fun q hq => match q with | 0 => nomatch hq)
    (fun q _ => match q with | 0 => tileObl m (RY m h) hpre)
    (fun q _ => match q with | 0 => SparseCore.Cfg.VecSplit.of_plain (vecSplit m (RY m h)))
    m ρ main (fun d => G m h d) (FIN m h) (u₀ m h) (sep_elim_left.trans (hu₀ m h)) (hmain m h ρ) (fq m h) (hfin m h) (QC m h) (fun _ h hz => ⟨h, hz⟩)

end Cert.Proof.Gather

end
-- ==== Proof.Printed.lean ====
/-
  The program as printed and the exact program, each with its calls' pipelines as a parameter: equal pipelines and equal bodies
  give equal runs, with the named constants read as their bits.
-/
module

public import proofs.«01_k».proof.Proof.Run
public import proofs.«01_k».proof.Kernel
public import proofs.«01_k».proof.Proof.Gen.Kernel
public import proofs.«01_k».proof.Proof.Gen.KernelIdeal

@[expose] public section

noncomputable section

namespace Cert.Proof.Printed

open Idealize.ShloMosaic

/-! ## The program over its pipelines -/

/-- Five steps in order. -/
abbrev five {E : Type → Type} (a b c k e : Idealize.SL.Sem.Prog E PUnit) : Idealize.SL.Sem.Prog E PUnit := do
  a
  b
  c
  k
  e
  pure ⟨⟩

/-- Equal steps, equal programs. -/
theorem five_congr {E : Type → Type} {a b c k e a' b' c' k' e' : Idealize.SL.Sem.Prog E PUnit}
    (ha : a' = a) (hb : b' = b) (hc : c' = c) (hk : k' = k) (he : e' = e) : five a' b' c' k' e' = five a b c k e := by
  subst ha hb hc hk he
  rfl

section Over

open Cert.KernelIdeal Cert.KernelIdeal.Facts₀ Cert.KernelIdeal.Facts
open Idealize.SL Idealize.SL.Sem

variable {F : FTy → Type} [FloatOps F] (pc : Fin 2 → Pipeline.PCfg sig Λ₀ (Elt F)) (d₀ : Defs nD τ sig (Elt F) Λ₀)

/-- The SparseCore call over the pipelines. -/
abbrev scOf : SparseCore.Cfg τ sig (Pipeline.Sig Λ₀ (Fin 2) fun p => (pc p).Adm) 1 where
  kind := scKind
  nCore := scNCore
  nSub := scNSub
  hkind := hscKind
  hCore := hscCore
  hSub := hscSub
  body := fun | 0 => Pipeline.kernel 1 | ⟨_ + 1, h⟩ => absurd h (Nat.not_lt.2 (Nat.le_add_left _ _))
  args := fun | 0 => ⟨⟩ | ⟨_ + 1, h⟩ => absurd h (Nat.not_lt.2 (Nat.le_add_left _ _))
  start := sc_start
  done := sc_done
  go := sc_go
  taskDone := sc_taskDone

/-- The table of bodies. -/
abbrev defsOf : Defs nD τ sig (Elt F) (SparseCore.Sig (Pipeline.Sig Λ₀ (Fin 2) fun p => (pc p).Adm) 1) :=
  (scOf pc).defs (Pipeline.defs pc d₀)

/-- The host's reshape of the first layer's bias. -/
abbrev bias1 : Prog (TpuEff nD τ sig (Elt F) (SparseCore.Sig (Pipeline.Sig Λ₀ (Fin 2) fun p => (pc p).Adm) 1) .tc) PUnit :=
  hlo rfl (StableHlo.reshape main_arg8 main_v0 (rfl : (.f32 : EltTy) = .f32) shapeCasts_S8x2048_S8x1x2048) (fun _ => .ret ⟨⟩)

/-- The host's reshape of the second layer's bias. -/
abbrev bias2 : Prog (TpuEff nD τ sig (Elt F) (SparseCore.Sig (Pipeline.Sig Λ₀ (Fin 2) fun p => (pc p).Adm) 1) .tc) PUnit :=
  hlo rfl (StableHlo.reshape main_arg10 main_v1 (rfl : (.f32 : EltTy) = .f32) shapeCasts_S8x1024_S8x1x1024) (fun _ => .ret ⟨⟩)

/-- The call of a pipeline. -/
abbrev call (p : Fin 2) : Prog (TpuEff nD τ sig (Elt F) (SparseCore.Sig (Pipeline.Sig Λ₀ (Fin 2) fun p => (pc p).Adm) 1) .tc) PUnit :=
  Prog.lift (.customCall (SparseCore.inner (Pipeline.entry p)) ())

/-- The host's part. -/
abbrev mainOf : Dev nD → Prog (TpuEff nD τ sig (Elt F) (SparseCore.Sig (Pipeline.Sig Λ₀ (Fin 2) fun p => (pc p).Adm) 1) .tc) PUnit := fun d =>
  five (bias1 pc) (bias2 pc) (call pc 0) ((scOf pc).run d 0) (call pc 1)

/-- Pipelines and bodies equal to the exact program's run as it does. -/
theorem run_of [Named F] [∀ e, Nonempty (Elt F e)] (hpc : pc = pcfgs) (hd : d₀ = defs₀) (m : (ℓ : Loc nD τ sig) → Buf (Elt F) ℓ) (ρ : Dev nD → PrngReg)
    (hp : Gather.PosOK m) (ht : Gather.TabOK m) :
    θ_run (defsOf pc d₀) ((scOf pc).threads (mainOf pc)) ⟨m, fun _ => 0, ρ⟩ fun r =>
      (∀ c : Dev nD, Gather.Kept m c r.2.mem) ∧ r.2.sem = fun _ => 0 := by
  subst hpc hd
  exact (θ_run Cert.KernelIdeal.defs _ _).mono (fun _ h => ⟨fun c => (h.1 c).2, h.2⟩) (Gather.run_main m ht ρ hp)

end Over

/-! ## The two programs' parts -/

/-- A named constant read as its own bits. -/
@[reducible] def namedBits {F : FTy → Type} [FloatOps F] : Named F where
  named _ _ {φ} b := Scalar.ofBits φ b

attribute [local instance] namedBits

variable {F : FTy → Type} [FloatOps F]

/-- The two programs' pipelines are the same. -/
theorem pcfgs_eq : Cert.Kernel.pcfgs (F := F) = Cert.KernelIdeal.pcfgs (F := F) := (rfl)

/-- The two programs' network bodies are the same. -/
theorem body0 (a) : Cert.Kernel.defs₀ (F := F) .tc 0 a = Cert.KernelIdeal.defs₀ (F := F) .tc 0 a := (rfl)

/-- Their combine bodies are the same. -/
theorem body2 (a) : Cert.Kernel.defs₀ (F := F) .tc 2 a = Cert.KernelIdeal.defs₀ (F := F) .tc 2 a := (rfl)

/-- The processors' tables are the same: the host's, -/
theorem tc_eq (ℓ a) : Cert.Kernel.defs₀ (F := F) .tc ℓ a = Cert.KernelIdeal.defs₀ (F := F) .tc ℓ a := by
  match ℓ, a with
  | ⟨0, _⟩, a => exact body0 a
  | ⟨1, _⟩, _ => rfl
  | ⟨2, _⟩, a => exact body2 a

/-- the scalar subcores', -/
theorem scalar_eq (c ℓ a) : Cert.Kernel.defs₀ (F := F) (.scScalar c) ℓ a = Cert.KernelIdeal.defs₀ (F := F) (.scScalar c) ℓ a := by
  match ℓ, a with
  | ⟨0, _⟩, _ => rfl
  | ⟨1, _⟩, _ => rfl
  | ⟨2, _⟩, _ => rfl

/-- the vector subcores'. -/
theorem vector_eq (c s ℓ a) : Cert.Kernel.defs₀ (F := F) (.scVector c s) ℓ a = Cert.KernelIdeal.defs₀ (F := F) (.scVector c s) ℓ a := by
  match ℓ, a with
  | ⟨0, _⟩, _ => rfl
  | ⟨1, _⟩, _ => rfl
  | ⟨2, _⟩, _ => rfl

/-- So all bodies are. -/
theorem bodies_eq : Cert.Kernel.defs₀ (F := F) = Cert.KernelIdeal.defs₀ (F := F) := by
  funext p ℓ a
  match p with
  | .tc => exact tc_eq ℓ a
  | .scScalar c => exact scalar_eq c ℓ a
  | .scVector c s => exact vector_eq c s ℓ a

/-- The printed program's bodies, over its pipelines. -/
theorem defs_eq : Cert.Kernel.defs (F := F) = defsOf Cert.Kernel.pcfgs Cert.Kernel.defs₀ := (rfl)

/-- The printed program's SparseCore call, over its pipelines. -/
theorem sc_eq : Cert.Kernel.sc (F := F) = scOf Cert.Kernel.pcfgs := (rfl)

section Host

open Cert.Kernel Cert.Kernel.Facts₀ Cert.Kernel.Facts
open Idealize.SL Idealize.SL.Sem

variable (pc : Fin 2 → Pipeline.PCfg sig Λ₀ (Elt F))

/-- The host's reshape of the first layer's bias. -/
abbrev pbias1 : Prog (TpuEff nD τ sig (Elt F) (SparseCore.Sig (Pipeline.Sig Λ₀ (Fin 2) fun p => (pc p).Adm) 1) .tc) PUnit :=
  hlo rfl (StableHlo.reshape main_arg8 main_v0 (rfl : (.f32 : EltTy) = .f32) shapeCasts_S8x2048_S8x1x2048) (fun _ => .ret ⟨⟩)

/-- The host's reshape of the second layer's bias. -/
abbrev pbias2 : Prog (TpuEff nD τ sig (Elt F) (SparseCore.Sig (Pipeline.Sig Λ₀ (Fin 2) fun p => (pc p).Adm) 1) .tc) PUnit :=
  hlo rfl (StableHlo.reshape main_arg10 main_v1 (rfl : (.f32 : EltTy) = .f32) shapeCasts_S8x1024_S8x1x1024) (fun _ => .ret ⟨⟩)

/-- The call of a pipeline. -/
abbrev pcall (p : Fin 2) : Prog (TpuEff nD τ sig (Elt F) (SparseCore.Sig (Pipeline.Sig Λ₀ (Fin 2) fun p => (pc p).Adm) 1) .tc) PUnit :=
  Prog.lift (.customCall (SparseCore.inner (Pipeline.entry p)) ())

/-- The printed program's host part, in steps. -/
theorem main_steps : main (F := F) = fun d => five (pbias1 pcfgs) (pbias2 pcfgs) (pcall pcfgs 0) (sc.run d 0) (pcall pcfgs 1) := (rfl)

/-- The two programs' steps are the same: the reshapes -/
theorem bias1_eq : pbias1 pc = bias1 pc := (rfl)
/-- of both biases, -/
theorem bias2_eq : pbias2 pc = bias2 pc := (rfl)
/-- the pipelines' calls, -/
theorem call_eq (p : Fin 2) : pcall pc p = call pc p := (rfl)
/-- the SparseCore call. -/
theorem run_eq (d : Dev nD) : (sc (F := F)).run (Val := Elt F) d 0 = (scOf (F := F) pcfgs).run (Val := Elt F) d 0 := (rfl)

/-- The printed program's host part, over its pipelines. -/
theorem main_eq : main (F := F) = mainOf pcfgs :=
  main_steps.trans (funext fun d => five_congr (bias1_eq _) (bias2_eq _) (call_eq _ _) (run_eq d) (call_eq _ _))

end Host

/-- Equal calls and host parts give equal threads. -/
theorem threads_congr {nD : ℕ} {τ : Topo} {sig : RefSig} {Λ : Idealize.SL.Sem.Labels} {n : ℕ} {Val : EltTy → Type} {K K' : SparseCore.Cfg τ sig Λ n}
    {M M' : Dev nD → Idealize.SL.Sem.Prog (TpuEff nD τ sig Val (SparseCore.Sig Λ n) .tc) PUnit} (hK : K' = K) (hM : M' = M) :
    K'.threads M' = K.threads M := by
  subst hK hM
  rfl

/-- The printed program's threads, over its pipelines. -/
theorem threads_eq : Cert.Kernel.threads (F := F) = (scOf Cert.Kernel.pcfgs).threads (mainOf Cert.Kernel.pcfgs) :=
  threads_congr sc_eq main_eq

/-- The printed program's run, over its pipelines. -/
theorem run_over [∀ e, Nonempty (Elt F e)] (m : (ℓ : Loc Cert.KernelIdeal.nD Cert.KernelIdeal.τ Cert.KernelIdeal.sig) → Buf (Elt F) ℓ) (ρ : Dev Cert.KernelIdeal.nD → PrngReg)
    (hp : Gather.PosOK m) (ht : Gather.TabOK m) :
    θ_run (defsOf (F := F) Cert.Kernel.pcfgs Cert.Kernel.defs₀) ((scOf Cert.Kernel.pcfgs).threads (mainOf Cert.Kernel.pcfgs)) ⟨m, fun _ => 0, ρ⟩ fun r =>
      (∀ c : Dev Cert.KernelIdeal.nD, Gather.Kept m c r.2.mem) ∧ r.2.sem = fun _ => 0 :=
  run_of Cert.Kernel.pcfgs Cert.Kernel.defs₀ pcfgs_eq bodies_eq m ρ hp ht

/-- Equal programs run alike. -/
theorem run_congr {nD : ℕ} {τ : Topo} {sig : RefSig} {Λ : Idealize.SL.Sem.Labels} {D D' : Defs nD τ sig (Elt F) Λ}
    {T T' : (c : Thread nD τ) → Idealize.SL.Sem.Prog (TpuEff nD τ sig (Elt F) Λ c.2) PUnit} (hD : D' = D) (hT : T' = T)
    {σ : MemSt nD τ sig (Elt F)} {Q : PUnit × MemSt nD τ sig (Elt F) → Prop} (h : θ_run D T σ Q) : θ_run D' T' σ Q := by
  subst hD hT
  exact h

/-- The program as printed, from in-range positions, experts and blocks: it ends, faults nowhere, leaves its arguments as they
    were and every semaphore at zero. -/
theorem frame [∀ e, Nonempty (Elt F e)] (m : (ℓ : Loc Cert.KernelIdeal.nD Cert.KernelIdeal.τ Cert.KernelIdeal.sig) → Buf (Elt F) ℓ) (ρ : Dev Cert.KernelIdeal.nD → PrngReg)
    (hp : Gather.PosOK m) (ht : Gather.TabOK m) :
    θ_run (Cert.Kernel.defs (F := F)) (Cert.Kernel.threads (F := F)) ⟨m, fun _ => 0, ρ⟩ fun r =>
      (∀ c : Dev Cert.KernelIdeal.nD, Gather.Kept m c r.2.mem) ∧ r.2.sem = fun _ => 0 :=
  run_congr defs_eq threads_eq (run_over m ρ hp ht)

end Cert.Proof.Printed

end
-- ==== Proof.Steps.lean ====
/-
  What the experts' network leaves when the tables describe its work in order: each step's block lies among its expert's rows,
  the first step is active, and a step that is not keeps the block of the step before. Then the scratch memory holds the
  step's expert's weights, and every block written back holds the network's rows, whatever the buffers held at first.
-/
module

public import proofs.«01_k».proof.Proof.RunA
public import Idealize.ShloMosaic.Lib.Pipeline.Value
public import Idealize.ShloMosaic.Lib.Pipeline.ArrRel

@[expose] public section

noncomputable section

namespace Cert.Proof.Gather

open Cert.KernelIdeal Cert.KernelIdeal.Gen

open Idealize.ShloMosaic hiding ix1 ix2 ix3
open Idealize.ShloMosaic.ValueIdx Idealize.ShloMosaic.TcCoe
open Idealize.ShloMosaic.Pipeline (Dat RDat Cfg)

variable {F : FTy → Type} [FloatOps F] [Named F] [∀ e, Nonempty (Elt F e)]

variable (m : (ℓ : Loc nD τ sig) → Buf (Elt F) ℓ) (h : TabOK m)

/-- The tables describe the work in order. -/
structure TabRel : Prop where
  own : ∀ k : Fin 40, (m (teLoc 0) (ix1 k) : BitVec 32).toNat * 16 ≤ (m (xbLoc 0) (ix1 k) : BitVec 32).toNat
    ∧ (m (xbLoc 0) (ix1 k) : BitVec 32).toNat < (m (teLoc 0) (ix1 k) : BitVec 32).toNat * 16 + 16
  first : (m (acLoc 0) (ix1 0) : BitVec 32) = 1#32
  keep : ∀ k : Fin 39, (m (acLoc 0) (ix1 k.succ) : BitVec 32) = 1#32 ∨ (m (xbLoc 0) (ix1 k.succ) : BitVec 32) = m (xbLoc 0) (ix1 k.castSucc)

theorem coords_val : ∀ t : Fin grid0.N, (grid0.coords t 0).val = t.val := by decide +kernel

theorem coords_lt (t : Fin grid0.N) : t.val < 40 := t.isLt

theorem ix_coords (t : Fin grid0.N) : ix (grid0.coords t) = ix1 (⟨t.val, t.isLt⟩ : Fin 40) :=
  (ix_eq _).trans (congrArg ix1 (Fin.ext (coords_val t)))

theorem ixp_coords (t : Fin grid0.N) : ixp (grid0.coords t) = ix1 (⟨t.val - 1, lt_of_le_of_lt (Nat.sub_le _ _) t.isLt⟩ : Fin 40) :=
  (ixp_eq _).trans (congrArg ix1 (Fin.ext (congrArg (· - 1) (coords_val t))))

variable {m}

/-- Steps of one block have one expert. -/
theorem te_of_xb (R : TabRel m) (t t' : Fin grid0.N) (e : xb m (grid0.coords t) = xb m (grid0.coords t')) :
    te m (grid0.coords t) = te m (grid0.coords t') := by
  have h1 := R.own ⟨t.val, t.isLt⟩
  have h2 := R.own ⟨t'.val, t'.isLt⟩
  rw [← ix_coords] at h1 h2
  have e' := congrArg BitVec.toNat e
  refine BitVec.eq_of_toNat_eq ?_
  show (m (teLoc 0) (ix (grid0.coords t)) : BitVec 32).toNat = (m (teLoc 0) (ix (grid0.coords t')) : BitVec 32).toNat
  change (m (xbLoc 0) (ix (grid0.coords t)) : BitVec 32).toNat = (m (xbLoc 0) (ix (grid0.coords t')) : BitVec 32).toNat at e'
  omega

/-- A step is active or has the block of the step before, and is then not the first. -/
theorem active_or (R : TabRel m) (t : Fin grid0.N) :
    ac m (grid0.coords t) = 1#32 ∨ ∃ hn : t.val - 1 < grid0.N, t.val ≠ 0 ∧ xb m (grid0.coords t) = xb m (grid0.coords ⟨t.val - 1, hn⟩) := by
  obtain ⟨n, hn⟩ := t
  cases n with
  | zero => exact .inl (by show m (acLoc 0) (ix _) = _; rw [ix_coords]; exact R.first)
  | succ n =>
    have hn' : n < 39 := by have := coords_lt ⟨n + 1, hn⟩; simp only at this; omega
    rcases R.keep ⟨n, hn'⟩ with hk | hk
    · exact .inl (by show m (acLoc 0) (ix _) = _; rw [ix_coords]; exact hk)
    · refine .inr ⟨Nat.lt_of_succ_lt hn, Nat.succ_ne_zero _, ?_⟩
      show m (xbLoc 0) (ix _) = m (xbLoc 0) (ix _)
      rw [ix_coords, ix_coords]; exact hk

theorem netCond_iff (v : BitVec 32) : k0_cond2 v = 1#1 ↔ v = 1#32 := by
  unfold k0_cond2
  by_cases hv : v = 1#32
  · subst hv; exact ⟨fun _ => rfl, fun _ => rfl⟩
  · refine ⟨fun e => absurd e ?_, fun e => absurd e hv⟩
    have : (Scalar.cmpi .eq v 1#32) = 0#1 := by
      show BitVec.ofBool (v == 1#32) = 0#1
      rw [beq_eq_false_iff_ne.2 hv]; rfl
    simp only [this]; decide

/-- A step that does not load has the expert of the step before, and is not the first. -/
theorem keeps (R : TabRel m) (t : Fin grid0.N) (hl : ldc m (grid0.coords t) ≠ 1#1) :
    ∃ hn : t.val - 1 < grid0.N, t.val ≠ 0 ∧ te m (grid0.coords t) = te m (grid0.coords ⟨t.val - 1, hn⟩) := by
  have hlt : t.val - 1 < grid0.N := lt_of_le_of_lt (Nat.sub_le _ _) t.isLt
  rcases active_or R t with ha | ⟨hn, h0, e⟩
  · have hz : ∀ x y : BitVec 1, x = 1#1 ∨ y = 1#1 → Scalar.cmpi .ne (Scalar.extui (Scalar.andi 1#1 (Scalar.ori x y)) : BitVec 32) 0#32 = 1#1 := by decide
    have h1 : Scalar.cmpi .eq (ac m (grid0.coords t)) 1#32 = 1#1 := by rw [ha]; decide
    have hno : ¬ (Scalar.cmpi .eq (BitVec.ofNat 32 (grid0.coords t 0).val) 0#32 = 1#1 ∨ Scalar.cmpi .ne (te m (grid0.coords t)) (tep m (grid0.coords t)) = 1#1) := by
      intro hor; refine hl ?_; unfold ldc; rw [h1]; exact hz _ _ hor
    push Not at hno
    refine ⟨hlt, fun e0 => hno.1 ?_, ?_⟩
    · rw [coords_val, e0]; decide
    · by_contra hne
      refine hno.2 ?_
      have hq : tep m (grid0.coords t) = te m (grid0.coords ⟨t.val - 1, hlt⟩) := by
        show m (teLoc 0) (ixp _) = m (teLoc 0) (ix _)
        rw [ixp_coords, ix_coords]
      rw [hq]
      show BitVec.ofBool (_ != _) = 1#1
      rw [bne_iff_ne.2 hne]; rfl
  · exact ⟨hn, h0, te_of_xb R _ _ e⟩

/-! ## The blocks of a step depend on its expert and its block of rows -/

variable {h}

theorem bk_congr (c : Dev nD) (w : Fin 6) {t t' : Fin (cf m h).N} (e : ((cf m h).win w).index t = ((cf m h).win w).index t') :
    bk m h c w t = bk m h c w t' :=
  (rdat0 m h c).fetched_congr w e (by rfl) (fun _ => Classical.arbitrary _)

theorem index0 (t : Fin (cf m h).N) : ((cf m h).win 0).index t = ![(xb m (grid0.coords t)).toNat, 0] := rfl
theorem index1 (t : Fin (cf m h).N) : ((cf m h).win 1).index t = ![(te m (grid0.coords t)).toNat, 0, 0] := rfl
theorem index2 (t : Fin (cf m h).N) : ((cf m h).win 2).index t = ![(te m (grid0.coords t)).toNat, 0, 0] := rfl
theorem index3 (t : Fin (cf m h).N) : ((cf m h).win 3).index t = ![(te m (grid0.coords t)).toNat, 0, 0] := rfl
theorem index4 (t : Fin (cf m h).N) : ((cf m h).win 4).index t = ![(te m (grid0.coords t)).toNat, 0, 0] := rfl
theorem index5 (t : Fin (cf m h).N) : ((cf m h).win 5).index t = ![(xb m (grid0.coords t)).toNat, 0] := rfl

/-- The network's rows of a step's block. -/
def vb (h : TabOK m) (c : Dev nD) (t : Fin (cf m h).N) : S256x1024.Idx → Elt F .f32 :=
  k0_pay3 (bx m h c t) (k0_pay1 (bw1 m h c t)) (bb1 m h c t) (k0_pay2 (bw2 m h c t)) (bb2 m h c t)

theorem vb_congr (R : TabRel m) (c : Dev nD) (t t' : Fin (cf m h).N) (e : xb m (grid0.coords t) = xb m (grid0.coords t')) :
    vb h c t = vb h c t' := by
  have et := te_of_xb R t t' e
  have e0 : bx m h c t = bx m h c t' := bk_congr c 0 (by rw [index0, index0, e])
  have e1 : bw1 m h c t = bw1 m h c t' := bk_congr c 1 (by rw [index1, index1, et])
  have e2 : bb1 m h c t = bb1 m h c t' := bk_congr c 2 (by rw [index2, index2, et])
  have e3 : bw2 m h c t = bw2 m h c t' := bk_congr c 3 (by rw [index3, index3, et])
  have e4 : bb2 m h c t = bb2 m h c t' := bk_congr c 4 (by rw [index4, index4, et])
  unfold vb; rw [e0, e1, e2, e3, e4]

/-! ## The scratch memory holds the step's expert's weights -/

theorem scr_eq (R : TabRel m) (c : Dev nD) : ∀ (n : ℕ) (hn : n < (cf m h).N) (f1 f2), Scr m h c (n + 1) f1 f2 →
    f1 = k0_pay1 (bw1 m h c ⟨n, hn⟩) ∧ f2 = k0_pay2 (bw2 m h c ⟨n, hn⟩) := by
  intro n
  induction n with
  | zero =>
    rintro hn f1 f2 ⟨g1, g2, -, _, rfl, rfl⟩
    have hl : ldc m (grid0.coords ⟨0, hn⟩) = 1#1 := by
      by_contra hl
      obtain ⟨_, h0, _⟩ := keeps R ⟨0, hn⟩ hl
      exact h0 rfl
    unfold scr1 scr2
    rw [if_pos hl, if_pos hl]; exact ⟨rfl, rfl⟩
  | succ n ih =>
    rintro hn f1 f2 ⟨g1, g2, hg, _, rfl, rfl⟩
    unfold scr1 scr2
    by_cases hl : ldc m (grid0.coords ⟨n + 1, hn⟩) = 1#1
    · rw [if_pos hl, if_pos hl]; exact ⟨rfl, rfl⟩
    · rw [if_neg hl, if_neg hl]
      obtain ⟨hn', -, e⟩ := keeps R ⟨n + 1, hn⟩ hl
      have e' : te m (grid0.coords ⟨n + 1, hn⟩) = te m (grid0.coords ⟨n, hn'⟩) := e
      obtain ⟨r1, r2⟩ := ih hn' g1 g2 hg
      have e1 : bw1 m h c ⟨n + 1, hn⟩ = bw1 m h c ⟨n, hn'⟩ := bk_congr c 1 (by rw [index1, index1, e'])
      have e3 : bw2 m h c ⟨n + 1, hn⟩ = bw2 m h c ⟨n, hn'⟩ := bk_congr c 3 (by rw [index3, index3, e'])
      rw [e1, e3]; exact ⟨r1, r2⟩

/-! ## What a step leaves -/

theorem flush_of_last (t : Fin (cf m h).N) (e : t.val + 1 = 40) : ((cf m h).win 5).flush t = true := by
  rw [Pipeline.Window.flush_eq_flushOf]
  show (true && (decide (t.val + 1 = grid0.N) || _)) = true
  rw [decide_eq_true (show t.val + 1 = grid0.N from e)]; rfl

theorem flush_iff (t : Fin (cf m h).N) (hn : t.val + 1 < grid0.N) :
    ((cf m h).win 5).flush t = true ↔ ((cf m h).win 5).index ⟨t.val + 1, hn⟩ ≠ ((cf m h).win 5).index t := by
  rw [Pipeline.Window.flush_eq_flushOf]
  show (true && (decide (t.val + 1 = grid0.N) || decide (∃ h' : t.val + 1 < grid0.N, ((cf m h).win 5).index ⟨t.val + 1, h'⟩ ≠ ((cf m h).win 5).index t))) = true ↔ _
  rw [decide_eq_false (show ¬ t.val + 1 = grid0.N from ne_of_lt hn)]
  simp only [Bool.true_and, Bool.false_or, decide_eq_true_eq]
  exact ⟨fun ⟨_, e⟩ => e, fun e => ⟨hn, e⟩⟩

theorem leaves_eq (R : TabRel m) (c : Dev nD) : ∀ (n : ℕ) (hn : n < (cf m h).N) (X : S256x1024.Idx → Elt F .f32),
    (rdat0 m h c).Leaves (5 : Fin 6) ⟨n, hn⟩ X → X = vb h c ⟨n, hn⟩ := by
  intro n
  induction n with
  | zero =>
    rintro hn X ⟨Y, hY, f1, f2, hS, rfl⟩
    obtain ⟨r1, r2⟩ := scr_eq R c 0 hn f1 f2 hS
    rcases active_or R ⟨0, hn⟩ with ha | ⟨_, h0, _⟩
    · unfold outb; rw [if_pos ((netCond_iff _).2 ha), r1, r2]; rfl
    · exact absurd rfl h0
  | succ n ih =>
    rintro hn X ⟨Y, hY, f1, f2, hS, rfl⟩
    obtain ⟨r1, r2⟩ := scr_eq R c (n + 1) hn f1 f2 hS
    unfold outb
    by_cases hc : k0_cond2 (ac m (grid0.coords ⟨n + 1, hn⟩)) = 1#1
    · rw [if_pos hc, r1, r2]; rfl
    · rw [if_neg hc]
      rcases active_or R ⟨n + 1, hn⟩ with ha | ⟨hn', _, e⟩
      · exact absurd ((netCond_iff _).2 ha) hc
      · have e' : xb m (grid0.coords ⟨n + 1, hn⟩) = xb m (grid0.coords ⟨n, hn'⟩) := e
        have hf : ((cf m h).win 5).fetch ⟨n + 1, hn⟩ = false := rfl
        rcases ((rdat0 m h c).finds_of_pos (w := (5 : Fin 6)) (t := ⟨n + 1, hn⟩) hf (Nat.succ_ne_zero n) Y).1 hY with hfl | hL
        · exact absurd (by rw [index5, index5]; exact congrArg (fun v : BitVec 32 => ![v.toNat, 0]) e') ((flush_iff ⟨n, hn'⟩ hn).1 hfl)
        · exact (ih hn' Y hL).trans (vb_congr R c _ _ e'.symm)

/-- From every step on, the last step of its block writes it back. -/
theorem exists_flush : ∀ (k : ℕ) (t : Fin (cf m h).N), t.val + k = 39 →
    ∃ t' : Fin (cf m h).N, ((cf m h).win 5).flush t' = true ∧ ((cf m h).win 5).index t' = ((cf m h).win 5).index t := by
  intro k
  induction k with
  | zero => intro t ht; exact ⟨t, flush_of_last t (by omega), rfl⟩
  | succ k ih =>
    intro t ht
    have hn : t.val + 1 < grid0.N := (by omega : t.val + 1 < 40)
    by_cases hf : ((cf m h).win 5).flush t = true
    · exact ⟨t, hf, rfl⟩
    · have e : ((cf m h).win 5).index ⟨t.val + 1, hn⟩ = ((cf m h).win 5).index t := by
        by_contra hne; exact hf ((flush_iff t hn).2 hne)
      obtain ⟨t', h1, h2⟩ := ih ⟨t.val + 1, hn⟩ (by show t.val + 1 + k = 39; omega)
      exact ⟨t', h1, h2.trans e⟩

/-- Where an element of a step's block of the result lies. -/
theorem emb5_0 (t : Fin (cf m h).N) (y : S256x1024.Idx) : ((((cf m h).win 5).blk t).view.emb y (0 : Fin 2)).val = (xb m (grid0.coords t)).toNat * 256 + (y 0).val :=
  ((cf m h).win 5).rect_emb_val t y (0 : Fin 2) rfl
theorem emb5_1 (t : Fin (cf m h).N) (y : S256x1024.Idx) : ((((cf m h).win 5).blk t).view.emb y (1 : Fin 2)).val = (y 1).val :=
  (((cf m h).win 5).rect_emb_val t y (1 : Fin 2) rfl).trans (by show 0 * 1024 + _ = _; omega)

/-- If `P` holds of every element of the network's rows, it holds of what the network leaves at every row of a step's block. -/
theorem rows_of (R : TabRel m) (c : Dev nD) (P : S32768x1024.Idx → Elt F .f32 → Prop)
    (hP : ∀ (t : Fin (cf m h).N) (y : S256x1024.Idx), P ((((cf m h).win 5).blk t).view.emb y) (vb h c t y))
    (Y : S32768x1024.Idx → Elt F .f32) (hY : RY m h c Y) (i : S32768x1024.Idx)
    (t : Fin (cf m h).N) (hi : (xb m (grid0.coords t)).toNat * 256 ≤ (i 0).val ∧ (i 0).val < (xb m (grid0.coords t)).toNat * 256 + 256) : P i (Y i) := by
  obtain ⟨X, hX, hA⟩ := RDat.ArrAt.exists_exact (rd := rdat0 m h c) (w := (5 : Fin 6)) hY
  obtain ⟨t', hf, e⟩ := exists_flush (39 - t.val) t (by have := coords_lt t; omega)
  rw [index5, index5] at e
  have e0 : (xb m (grid0.coords t')).toNat = (xb m (grid0.coords t)).toNat := congrFun e 0
  have hy := hA (Function.update (fun _ _ _ => Classical.arbitrary _) (5 : Fin 6) X) (fun u _ _ => by rw [Function.update_self])
  rw [hy]
  refine Dat.arrAt_forall_of_flushed ((rdat0 m h c).withAfter (Function.update (fun _ _ _ => Classical.arbitrary _) (5 : Fin 6) X)) (5 : Fin 6) P (fun u hu y => ?_) (cf m h).N t' i t'.isLt hf ?_
  · have hv : X u = vb h c u := leaves_eq R c u.val u.isLt (X u) (hX u u.isLt hu)
    have key := hP u y
    rw [← hv] at key
    have hfl : ∀ (A : (w : Fin 6) → Fin (cf m h).N → ((cf m h).win w).block.Idx → Elt F ((cf m h).win w).elt) (e : A 5 = X), ((rdat0 m h c).withAfter A).flushed (5 : Fin 6) u y = X u y := by
      rintro A rfl; rfl
    have := hfl (Function.update (fun _ _ _ => Classical.arbitrary _) (5 : Fin 6) X) (Function.update_self _ _ _)
    refine Eq.mp (congrArg (P _) ?_) key
    exact this.symm
  · have hlt : (i 0).val - (xb m (grid0.coords t)).toNat * 256 < 256 := by omega
    refine Finset.mem_map.2 ⟨ix2 (⟨(i 0).val - (xb m (grid0.coords t)).toNat * 256, hlt⟩ : Fin 256) (i 1), Finset.mem_univ _, ?_⟩
    refine funext fun a => Fin.ext ?_
    fin_cases a
    · refine (emb5_0 t' _).trans ?_
      rw [e0]; show _ * 256 + ((i 0).val - _) = (i 0).val; omega
    · exact (emb5_1 t' _).trans rfl

end Cert.Proof.Gather

end
-- ==== Proof.Pre.lean ====
/-
  The preconditions read back. All ones, the first says that every position word names a row and the tables' words an expert
  and a block of rows; the second says besides that the tables describe the work in order and that some step covers every row
  a position names.
-/
module

public import proofs.«01_k».proof.Proof.Steps
public import proofs.«01_k».proof.Pre_rows_in_range
public import proofs.«01_k».proof.Pre_tables_ok
public import Idealize.ShloMosaic.Lib.ReduceAll
public import Idealize.ShloMosaic.Lib.Pointwise

@[expose] public section

noncomputable section

namespace Cert.Proof.Pre

open Idealize.ShloMosaic

/-! ## Words -/

theorem both {a b : BitVec 1} : IntOp.andi a b = 1#1 → a = 1#1 ∧ b = 1#1 := (by decide : ∀ a b : BitVec 1, IntOp.andi a b = 1#1 → a = 1#1 ∧ b = 1#1) a b

theorem either {a b : BitVec 1} : IntOp.ori a b = 1#1 → a = 1#1 ∨ b = 1#1 := (by decide : ∀ a b : BitVec 1, IntOp.ori a b = 1#1 → a = 1#1 ∨ b = 1#1) a b

theorem bool_one {b : Bool} (e : BitVec.ofBool b = 1#1) : b = true := by cases b <;> first | rfl | exact absurd e (by decide)

/-- Two comparisons, both true: the word is at least zero and below `N`. -/
theorem word_lt (N : ℕ) (hN : N < 2 ^ 31) (v : BitVec 32) (e : IntOp.andi (IntOp.cmpi .sge v 0#32) (IntOp.cmpi .slt v (BitVec.ofNat 32 N)) = 1#1) :
    v.toNat < N := by
  obtain ⟨e0, e1⟩ := both e
  have h0 := bool_one e0
  have h1 := bool_one e1
  simp only [BitVec.sle_eq_decide, BitVec.slt_eq_decide, decide_eq_true_eq, BitVec.toInt_eq_toNat_cond, BitVec.toNat_ofNat] at h0 h1
  rw [Nat.mod_eq_of_lt (show N < 2 ^ 32 by omega)] at h1
  omega

/-- A word between `a` times `k` and that plus `k`, all small: so are the numbers. -/
theorem word_between (k : ℕ) (v a : BitVec 32) (hs : a.toNat * k + k < 2 ^ 31) (hv : v.toNat < 2 ^ 31)
    (e : IntOp.andi (IntOp.cmpi .sle (IntOp.muli a (BitVec.ofNat 32 k)) v) (IntOp.cmpi .slt v (IntOp.addi (IntOp.muli a (BitVec.ofNat 32 k)) (BitVec.ofNat 32 k))) = 1#1) :
    a.toNat * k ≤ v.toNat ∧ v.toNat < a.toNat * k + k := by
  obtain ⟨e0, e1⟩ := both e
  have h0 := bool_one e0
  have h1 := bool_one e1
  have hk : (BitVec.ofNat 32 k).toNat = k := by rw [BitVec.toNat_ofNat]; exact Nat.mod_eq_of_lt (by omega)
  have hm : (IntOp.muli a (BitVec.ofNat 32 k)).toNat = a.toNat * k := by
    show (a * BitVec.ofNat 32 k).toNat = _
    rw [BitVec.toNat_mul, hk]; exact Nat.mod_eq_of_lt (by omega)
  have ha : (IntOp.addi (IntOp.muli a (BitVec.ofNat 32 k)) (BitVec.ofNat 32 k)).toNat = a.toNat * k + k := by
    show (IntOp.muli a (BitVec.ofNat 32 k) + BitVec.ofNat 32 k).toNat = _
    rw [BitVec.toNat_add, hm, hk]; exact Nat.mod_eq_of_lt (by omega)
  simp only [BitVec.sle_eq_decide, BitVec.slt_eq_decide, decide_eq_true_eq, BitVec.toInt_eq_toNat_cond, hm, ha] at h0 h1
  omega

theorem word_eq {a b : BitVec 32} (e : IntOp.cmpi .eq a b = 1#1) : a = b := eq_of_beq (bool_one e)

/-- A fold by `or` that came out 1 from 0 met a 1. -/
theorem foldl_ori {ι : Type} (f : ι → BitVec 1) : ∀ (l : List ι) (init : BitVec 1),
    l.foldl (fun r n => IntOp.ori r (f n)) init = 1#1 → init = 1#1 ∨ ∃ n ∈ l, f n = 1#1
  | [], _, h => .inl h
  | a :: l, init, h => by
    rcases foldl_ori f l _ h with h1 | ⟨n, hn, h1⟩
    · rcases either h1 with h1 | h1
      · exact .inl h1
      · exact .inr ⟨a, List.mem_cons_self .., h1⟩
    · exact .inr ⟨n, List.mem_cons_of_mem _ hn, h1⟩

/-- A reduce by `or` from 0 that is 1 at `j` had a 1 at some operand index reducing into `j`. -/
theorem reduce_ori {s t u : Shape} {axes : List (Fin s.rank)} (x : s.Idx → BitVec 1) (init : u.Idx → BitVec 1) (h : s.ReducesTo axes t) (hu : 0 < u.numel)
    (j : t.Idx) (hi : init (Shape.Idx.first hu) = 0#1) (e : Host.reduce IntOp.ori x init h hu j = 1#1) : ∃ i, h.drop i = j ∧ x i = 1#1 := by
  rw [Host.reduce_eq_foldl] at e
  rcases foldl_ori x _ _ e with h0 | ⟨n, hn, h1⟩
  · rw [hi] at h0; exact absurd h0 (by decide)
  · exact ⟨n, by simpa using (List.mem_filter.1 hn).2, h1⟩

/-! ## The first precondition -/

section
open Cert.Pre_rows_in_range

/-- The predicate all ones: every position word is a row number, every expert's word below 8 and every block's below 128. -/
theorem in_range [Cert.Pre_rows_in_range.Facts] {F : FTy → Type} [FloatOps F] (a0 : FVec F S32768x1024 .f32) (te ac xb : IVec S40 32) (q0 q1 : IVec S4096 32)
    (w : FVec F S4096x2 .f32) (a7 : FVec F S8x1024x2048 .f32) (a8 : FVec F S8x2048 .f32) (a9 : FVec F S8x2048x1024 .f32) (a10 : FVec F S8x1024 .f32)
    (h : fn a0 te ac xb q0 q1 w a7 a8 a9 a10 = fun _ => 1#1) :
    (∀ j, (q0 j).toNat < 32768) ∧ (∀ j, (q1 j).toNat < 32768) ∧ (∀ j, (te j).toNat < 8) ∧ ∀ j, (xb j).toNat < 128 := by
  have sub : Subsingleton S_.Idx := ⟨fun a b => funext fun i => i.elim0⟩
  have e := congrFun h (fun i => i.elim0)
  dsimp only [fn, fn_part1] at e
  obtain ⟨e, e3⟩ := both e
  obtain ⟨e, e2⟩ := both e
  obtain ⟨e0, e1⟩ := both e
  exact ⟨fun j => word_lt 32768 (by decide) _ (Host.reduce_andi_all _ _ _ _ _ e0 j), fun j => word_lt 32768 (by decide) _ (Host.reduce_andi_all _ _ _ _ _ e1 j),
    fun j => word_lt 8 (by decide) _ (Host.reduce_andi_all _ _ _ _ _ e2 j), fun j => word_lt 128 (by decide) _ (Host.reduce_andi_all _ _ _ _ _ e3 j)⟩

end

/-! ## The second precondition -/

section
open Cert.Pre_tables_ok Cert.Pre_tables_ok.Facts

theorem tables_facts : Cert.Pre_tables_ok.Facts where
  bcast_S_S4096 := by decide
  reducesTo_S4096_S_d0 := by decide
  h_S_ := by decide
  bcast_S_S40 := by decide
  reducesTo_S40_S_d0 := by decide
  slices_S40_S1_0 := by decide
  bcast_S_S1 := by decide
  reducesTo_S1_S_d0 := by decide
  slices_S40_S39_1 := by decide
  bcast_S_S39 := by decide
  slices_S40_S39_0 := by decide
  reducesTo_S39_S_d0 := by decide
  bcast_S4096_S4096x1_0 := by decide
  bcast_S40_S1x40_1 := by decide
  bcast_S1x40_S4096x40_0_1 := by decide
  bcast_S4096x1_S4096x40_0_1 := by decide
  bcast_S_S1x40 := by decide
  reducesTo_S4096x40_S4096_d1 := by decide

/-- A position some step's block covers, as the predicate says it. -/
theorem cover [Cert.Pre_tables_ok.Facts] (xb : IVec S40 32) (q : IVec S4096 32) (rx : ∀ j, (xb j).toNat < 128) (rq : ∀ j, (q j).toNat < 32768) (t : Fin 4096)
    (eq : Host.reduce IntOp.ori (andi
          (cmpi .sle (broadcastInDim S4096x40 ![0, 1] bcast_S1x40_S4096x40_0_1 (broadcastInDim S1x40 ![1] bcast_S40_S1x40_1 (muli xb (broadcastInDim S40 ![] bcast_S_S40 (constantI S_ 32 256#32)))))
            (broadcastInDim S4096x40 ![0, 1] bcast_S4096x1_S4096x40_0_1 (broadcastInDim S4096x1 ![0] bcast_S4096_S4096x1_0 q)))
          (cmpi .slt (broadcastInDim S4096x40 ![0, 1] bcast_S4096x1_S4096x40_0_1 (broadcastInDim S4096x1 ![0] bcast_S4096_S4096x1_0 q))
            (broadcastInDim S4096x40 ![0, 1] bcast_S1x40_S4096x40_0_1 (addi (broadcastInDim S1x40 ![1] bcast_S40_S1x40_1 (muli xb (broadcastInDim S40 ![] bcast_S_S40 (constantI S_ 32 256#32))))
              (broadcastInDim S1x40 ![] bcast_S_S1x40 (constantI S_ 32 256#32))))))
          (constantI S_ 1 0#1) reducesTo_S4096x40_S4096_d1 h_S_ (ix1 t) = 1#1) :
    ∃ k : Fin 40, (xb (ix1 k)).toNat * 256 ≤ (q (ix1 t)).toNat ∧ (q (ix1 t)).toNat < (xb (ix1 k)).toNat * 256 + 256 := by
  obtain ⟨i, hd, hx⟩ := reduce_ori _ _ _ _ _ rfl eq
  obtain ⟨a, k, rfl⟩ : ∃ (a : Fin 4096) (k : Fin 40), i = ix2 a k := ⟨i 0, i 1, eq_ix2 i⟩
  have ha : a = t := congrFun hd 0
  subst ha
  refine ⟨k, word_between 256 _ _ (by have := rx (ix1 k); omega) (by have := rq (ix1 a); omega) ?_⟩
  refine Eq.trans ?_ hx
  symm
  pointwise

/-- The predicate all ones: the first one's bounds; each step's block lies among its expert's 16; the first step is active, and one
    that is not has the block of the step before; some step's block holds every row a position names. -/
theorem tables [Cert.Pre_tables_ok.Facts] {F : FTy → Type} [FloatOps F] (a0 : FVec F S32768x1024 .f32) (te ac xb : IVec S40 32) (q0 q1 : IVec S4096 32)
    (w : FVec F S4096x2 .f32) (a7 : FVec F S8x1024x2048 .f32) (a8 : FVec F S8x2048 .f32) (a9 : FVec F S8x2048x1024 .f32) (a10 : FVec F S8x1024 .f32)
    (h : fn a0 te ac xb q0 q1 w a7 a8 a9 a10 = fun _ => 1#1) :
    ((∀ j, (q0 j).toNat < 32768) ∧ (∀ j, (q1 j).toNat < 32768) ∧ (∀ j, (te j).toNat < 8) ∧ ∀ j, (xb j).toNat < 128)
      ∧ (∀ j, (te j).toNat * 16 ≤ (xb j).toNat ∧ (xb j).toNat < (te j).toNat * 16 + 16)
      ∧ ac (ix1 0) = 1#32 ∧ (∀ k : Fin 39, ac (ix1 k.succ) = 1#32 ∨ xb (ix1 k.succ) = xb (ix1 k.castSucc))
      ∧ (∀ t : Fin 4096, ∃ k : Fin 40, (xb (ix1 k)).toNat * 256 ≤ (q0 (ix1 t)).toNat ∧ (q0 (ix1 t)).toNat < (xb (ix1 k)).toNat * 256 + 256)
      ∧ ∀ t : Fin 4096, ∃ k : Fin 40, (xb (ix1 k)).toNat * 256 ≤ (q1 (ix1 t)).toNat ∧ (q1 (ix1 t)).toNat < (xb (ix1 k)).toNat * 256 + 256 := by
  have sub : Subsingleton S_.Idx := ⟨fun a b => funext fun i => i.elim0⟩
  have e := congrFun h (fun i => i.elim0)
  dsimp only [fn, fn_part1, fn_part2, fn_part3, fn_part4] at e
  obtain ⟨f1, ec1⟩ := both e
  obtain ⟨f2, ec0⟩ := both f1
  obtain ⟨f3, ea⟩ := both f2
  obtain ⟨ef, ek⟩ := both ea
  obtain ⟨f4, eo⟩ := both f3
  obtain ⟨f5, e3⟩ := both f4
  obtain ⟨f6, e2⟩ := both f5
  obtain ⟨e0, e1⟩ := both f6
  clear f1 f2 f3 f4 f5 f6 ea e h
  have r0 : ∀ j, (q0 j).toNat < 32768 := fun j => word_lt 32768 (by decide) _ (Host.reduce_andi_all _ _ _ _ _ e0 j)
  have r1 : ∀ j, (q1 j).toNat < 32768 := fun j => word_lt 32768 (by decide) _ (Host.reduce_andi_all _ _ _ _ _ e1 j)
  have rt : ∀ j, (te j).toNat < 8 := fun j => word_lt 8 (by decide) _ (Host.reduce_andi_all _ _ _ _ _ e2 j)
  have rx : ∀ j, (xb j).toNat < 128 := fun j => word_lt 128 (by decide) _ (Host.reduce_andi_all _ _ _ _ _ e3 j)
  clear e0 e1 e2 e3
  refine ⟨⟨r0, r1, rt, rx⟩, fun j => word_between 16 _ _ (by have := rt j; omega) (by have := rx j; omega) (Host.reduce_andi_all _ _ _ _ _ eo j), ?_, fun k => ?_,
    fun t => cover xb q0 rx r0 t <| Host.reduce_andi_all _ _ _ _ _ ec0 (ix1 t), fun t => cover xb q1 rx r1 t <| Host.reduce_andi_all _ _ _ _ _ ec1 (ix1 t)⟩
  · have := Host.reduce_andi_all _ _ _ _ _ ef (ix1 0)
    refine word_eq (Eq.trans ?_ this)
    symm
    pointwise
  · have ek1 : ∀ h', (ix1 ⟨1 + k.val, h'⟩ : S40.Idx) = ix1 k.succ := fun _ => congrArg ix1 (Fin.ext (Nat.add_comm _ _))
    rcases either (Host.reduce_andi_all _ _ _ _ _ ek (ix1 k)) with h1 | h1
    · refine .inl (word_eq (Eq.trans ?_ h1))
      symm
      pointwise
      rw [ek1]
    · refine .inr (word_eq (Eq.trans ?_ h1))
      symm
      pointwise
      rw [ek1]; rfl

end

end Cert.Proof.Pre

end
-- ==== Proof.Net.lean ====
/-
  The experts' network at the extended reals, row by row: what a step computes of its block (`vb_apply`), and with the tables in
  order what the network leaves at every row a step covers (`net_row`).
-/
module

public import proofs.«01_k».proof.Proof.Steps
public import Idealize.ShloMosaic.Lib.Pointwise

@[expose] public section

noncomputable section

namespace Cert.Proof.Gather

open Cert.KernelIdeal Cert.KernelIdeal.Gen

open Idealize.ShloMosaic hiding Ideal
open Idealize.ShloMosaic (Ideal)
open Idealize.ShloMosaic.Pipeline (Dat RDat Cfg)

/-- The leaky unit: a value at least zero as it is, another times one hundredth. -/
def leaky (v : EReal) : EReal := if 0 ≤ v then v else ((1 / 100 : ℝ) : EReal) * v

/-- One row through one expert's two layers, at an output column. -/
def ffn (x : Fin 1024 → EReal) (w1 : Fin 1024 → Fin 2048 → EReal) (b1 : Fin 2048 → EReal) (w2 : Fin 2048 → Fin 1024 → EReal)
    (b2 : Fin 1024 → EReal) (c : Fin 1024) : EReal :=
  leaky ((∑ k : Fin 2048, leaky ((∑ j : Fin 1024, x j * w1 j k) + b1 k) * w2 k c) + b2 c)

theorem pay3_apply (x : FVec Ideal S256x1024 .f32) (w1 : FVec Ideal S1x1024x2048 .f32) (b1 : FVec Ideal S1x1x2048 .f32)
    (w2 : FVec Ideal S1x2048x1024 .f32) (b2 : FVec Ideal S1x1x1024 .f32) (r : Fin 256) (c : Fin 1024) :
    k0_pay3 (F := Ideal) x (k0_pay1 (F := Ideal) w1) b1 (k0_pay2 (F := Ideal) w2) b2 (ix2 r c)
      = ffn (fun j => x (ix2 r j)) (fun j k => w1 (ix3 0 j k)) (fun k => b1 (ix3 0 0 k)) (fun k c => w2 (ix3 0 k c)) (fun c => b2 (ix3 0 0 c)) c := by
  pointwise [k0_pay3, k0_pay1, k0_pay2]
  rfl

variable (m : (ℓ : Loc nD τ sig) → Buf (Elt Ideal) ℓ)

/-- The network's row `i 0` at the column `i 1`, by the expert owning the row: each expert owns 4096 rows in order. -/
def netVal (i : S32768x1024.Idx) : EReal :=
  ffn (fun j => (m (xsLoc 0) : FVec Ideal S32768x1024 .f32) (ix2 (i 0) j))
    (fun j k => (m (w1Loc 0) : FVec Ideal S8x1024x2048 .f32) (ix3 ⟨(i 0).val / 4096, Nat.div_lt_of_lt_mul (i 0).isLt⟩ j k))
    (fun k => (m (b1Loc 0) : FVec Ideal S8x2048 .f32) (ix2 ⟨(i 0).val / 4096, Nat.div_lt_of_lt_mul (i 0).isLt⟩ k))
    (fun k c => (m (w2Loc 0) : FVec Ideal S8x2048x1024 .f32) (ix3 ⟨(i 0).val / 4096, Nat.div_lt_of_lt_mul (i 0).isLt⟩ k c))
    (fun c => (m (b2Loc 0) : FVec Ideal S8x1024 .f32) (ix2 ⟨(i 0).val / 4096, Nat.div_lt_of_lt_mul (i 0).isLt⟩ c)) (i 1)

variable {m} {h : TabOK m}

theorem bx_apply (t : Fin (cf m h).N) (y : S256x1024.Idx) :
    bx m h 0 t y = (m (xsLoc 0) : FVec Ideal S32768x1024 .f32) ((((cf m h).win 0).blk t).view.emb y) := by
  show (V0 m 0 main_arg0 : FVec Ideal S32768x1024 .f32) ((((cf m h).win 0).blk t).view.emb y) = _
  rw [V0_ne m 0 main_arg0 (by decide) (by decide)]
theorem bw1_apply (t : Fin (cf m h).N) (y : S1x1024x2048.Idx) :
    bw1 m h 0 t y = (m (w1Loc 0) : FVec Ideal S8x1024x2048 .f32) ((((cf m h).win 1).blk t).view.emb y) := by
  show (V0 m 0 main_arg7 : FVec Ideal S8x1024x2048 .f32) ((((cf m h).win 1).blk t).view.emb y) = _
  rw [V0_ne m 0 main_arg7 (by decide) (by decide)]
theorem bb1_apply (t : Fin (cf m h).N) (y : S1x1x2048.Idx) : bb1 m h 0 t y = b1row m 0 ((((cf m h).win 2).blk t).view.emb y) := by
  show (V0 m 0 main_v0 : FVec Ideal S8x1x2048 .f32) ((((cf m h).win 2).blk t).view.emb y) = _
  rw [V0_v0]
theorem bw2_apply (t : Fin (cf m h).N) (y : S1x2048x1024.Idx) :
    bw2 m h 0 t y = (m (w2Loc 0) : FVec Ideal S8x2048x1024 .f32) ((((cf m h).win 3).blk t).view.emb y) := by
  show (V0 m 0 main_arg9 : FVec Ideal S8x2048x1024 .f32) ((((cf m h).win 3).blk t).view.emb y) = _
  rw [V0_ne m 0 main_arg9 (by decide) (by decide)]
theorem bb2_apply (t : Fin (cf m h).N) (y : S1x1x1024.Idx) : bb2 m h 0 t y = b2row m 0 ((((cf m h).win 4).blk t).view.emb y) := by
  show (V0 m 0 main_v1 : FVec Ideal S8x1x1024 .f32) ((((cf m h).win 4).blk t).view.emb y) = _
  rw [V0_v1]

theorem b1row_apply (e : Fin 8) (k : Fin 2048) : b1row m 0 (ix3 e 0 k) = (m (b1Loc 0) : FVec Ideal S8x2048 .f32) (ix2 e k) := by
  pointwise [b1row]
theorem b2row_apply (e : Fin 8) (k : Fin 1024) : b2row m 0 (ix3 e 0 k) = (m (b2Loc 0) : FVec Ideal S8x1024 .f32) (ix2 e k) := by
  pointwise [b2row]

/-- A step's rows are the network's rows at their places. -/
theorem vb_apply (R : TabRel m) (t : Fin (cf m h).N) (y : S256x1024.Idx) :
    vb h 0 t y = netVal m ((((cf m h).win 5).blk t).view.emb y) := by
  obtain ⟨r, c, rfl⟩ : ∃ (r : Fin 256) (c : Fin 1024), y = ix2 r c := ⟨y 0, y 1, eq_ix2 y⟩
  have ho := R.own ⟨t.val, t.isLt⟩
  rw [← ix_coords] at ho
  change (te m (grid0.coords t)).toNat * 16 ≤ (xb m (grid0.coords t)).toNat ∧ (xb m (grid0.coords t)).toNat < (te m (grid0.coords t)).toNat * 16 + 16 at ho
  have q0 := emb5_0 t (ix2 r c)
  have q1 := emb5_1 t (ix2 r c)
  change _ = (xb m (grid0.coords t)).toNat * 256 + r.val at q0
  change _ = c.val at q1
  unfold vb netVal
  rw [pay3_apply]
  generalize hz : (((cf m h).win 5).blk t).view.emb (ix2 r c) = z at q0 q1
  have hr := r.isLt
  have he : (z (0 : Fin 2)).val / 4096 = (te m (grid0.coords t)).toNat := by rw [q0]; omega
  have hx : ∀ j : Fin 1024, (((cf m h).win 0).blk t).view.emb (ix2 r j) = ix2 (z (0 : Fin 2)) j := fun j => funext fun a => Fin.ext (by
    fin_cases a
    · exact (((cf m h).win 0).rect_emb_val t (ix2 r j) (0 : Fin 2) rfl).trans q0.symm
    · exact (((cf m h).win 0).rect_emb_val t (ix2 r j) (1 : Fin 2) rfl).trans (by show 0 * 1024 + j.val = j.val; omega))
  have h1 : ∀ (j : Fin 1024) (k : Fin 2048), (((cf m h).win 1).blk t).view.emb (ix3 0 j k) = ix3 ⟨(z (0 : Fin 2)).val / 4096, Nat.div_lt_of_lt_mul (z (0 : Fin 2)).isLt⟩ j k :=
    fun j k => funext fun a => Fin.ext (by
      fin_cases a
      · exact (((cf m h).win 1).rect_emb_val t (ix3 0 j k) (0 : Fin 3) rfl).trans ((by show (te m (grid0.coords t)).toNat * 1 + 0 = (te m (grid0.coords t)).toNat; omega : _ = _).trans he.symm)
      · exact (((cf m h).win 1).rect_emb_val t (ix3 0 j k) (1 : Fin 3) rfl).trans (by show 0 * 1024 + j.val = j.val; omega)
      · exact (((cf m h).win 1).rect_emb_val t (ix3 0 j k) (2 : Fin 3) rfl).trans (by show 0 * 2048 + k.val = k.val; omega))
  have h2 : ∀ k : Fin 2048, (((cf m h).win 2).blk t).view.emb (ix3 0 0 k) = ix3 ⟨(z (0 : Fin 2)).val / 4096, Nat.div_lt_of_lt_mul (z (0 : Fin 2)).isLt⟩ 0 k :=
    fun k => funext fun a => Fin.ext (by
      fin_cases a
      · exact (((cf m h).win 2).rect_emb_val t (ix3 0 0 k) (0 : Fin 3) rfl).trans ((by show (te m (grid0.coords t)).toNat * 1 + 0 = (te m (grid0.coords t)).toNat; omega : _ = _).trans he.symm)
      · exact (((cf m h).win 2).rect_emb_val t (ix3 0 0 k) (1 : Fin 3) rfl)
      · exact (((cf m h).win 2).rect_emb_val t (ix3 0 0 k) (2 : Fin 3) rfl).trans (by show 0 * 2048 + k.val = k.val; omega))
  have h3 : ∀ (k : Fin 2048) (c : Fin 1024), (((cf m h).win 3).blk t).view.emb (ix3 0 k c) = ix3 ⟨(z (0 : Fin 2)).val / 4096, Nat.div_lt_of_lt_mul (z (0 : Fin 2)).isLt⟩ k c :=
    fun k c => funext fun a => Fin.ext (by
      fin_cases a
      · exact (((cf m h).win 3).rect_emb_val t (ix3 0 k c) (0 : Fin 3) rfl).trans ((by show (te m (grid0.coords t)).toNat * 1 + 0 = (te m (grid0.coords t)).toNat; omega : _ = _).trans he.symm)
      · exact (((cf m h).win 3).rect_emb_val t (ix3 0 k c) (1 : Fin 3) rfl).trans (by show 0 * 2048 + k.val = k.val; omega)
      · exact (((cf m h).win 3).rect_emb_val t (ix3 0 k c) (2 : Fin 3) rfl).trans (by show 0 * 1024 + c.val = c.val; omega))
  have h4 : ∀ c : Fin 1024, (((cf m h).win 4).blk t).view.emb (ix3 0 0 c) = ix3 ⟨(z (0 : Fin 2)).val / 4096, Nat.div_lt_of_lt_mul (z (0 : Fin 2)).isLt⟩ 0 c :=
    fun c => funext fun a => Fin.ext (by
      fin_cases a
      · exact (((cf m h).win 4).rect_emb_val t (ix3 0 0 c) (0 : Fin 3) rfl).trans ((by show (te m (grid0.coords t)).toNat * 1 + 0 = (te m (grid0.coords t)).toNat; omega : _ = _).trans he.symm)
      · exact (((cf m h).win 4).rect_emb_val t (ix3 0 0 c) (1 : Fin 3) rfl)
      · exact (((cf m h).win 4).rect_emb_val t (ix3 0 0 c) (2 : Fin 3) rfl).trans (by show 0 * 1024 + c.val = c.val; omega))
  have hc : c = z (1 : Fin 2) := Fin.ext q1.symm
  have ex : (fun j => bx m h 0 t (ix2 r j)) = fun j => (m (xsLoc 0) : FVec Ideal S32768x1024 .f32) (ix2 (z (0 : Fin 2)) j) :=
    funext fun j => (bx_apply t _).trans (congrArg (m (xsLoc 0) : FVec Ideal S32768x1024 .f32) (hx j))
  have e1 : (fun j k => bw1 m h 0 t (ix3 0 j k)) = fun j k => (m (w1Loc 0) : FVec Ideal S8x1024x2048 .f32) (ix3 ⟨(z (0 : Fin 2)).val / 4096, Nat.div_lt_of_lt_mul (z (0 : Fin 2)).isLt⟩ j k) :=
    funext fun j => funext fun k => (bw1_apply t _).trans (congrArg (m (w1Loc 0) : FVec Ideal S8x1024x2048 .f32) (h1 j k))
  have e2 : (fun k => bb1 m h 0 t (ix3 0 0 k)) = fun k => (m (b1Loc 0) : FVec Ideal S8x2048 .f32) (ix2 ⟨(z (0 : Fin 2)).val / 4096, Nat.div_lt_of_lt_mul (z (0 : Fin 2)).isLt⟩ k) :=
    funext fun k => (bb1_apply t _).trans ((congrArg (b1row m 0) (h2 k)).trans (b1row_apply _ k))
  have e3 : (fun k c => bw2 m h 0 t (ix3 0 k c)) = fun k c => (m (w2Loc 0) : FVec Ideal S8x2048x1024 .f32) (ix3 ⟨(z (0 : Fin 2)).val / 4096, Nat.div_lt_of_lt_mul (z (0 : Fin 2)).isLt⟩ k c) :=
    funext fun k => funext fun c => (bw2_apply t _).trans (congrArg (m (w2Loc 0) : FVec Ideal S8x2048x1024 .f32) (h3 k c))
  have e4 : (fun c => bb2 m h 0 t (ix3 0 0 c)) = fun c => (m (b2Loc 0) : FVec Ideal S8x1024 .f32) (ix2 ⟨(z (0 : Fin 2)).val / 4096, Nat.div_lt_of_lt_mul (z (0 : Fin 2)).isLt⟩ c) :=
    funext fun c => (bb2_apply t _).trans ((congrArg (b2row m 0) (h4 c)).trans (b2row_apply _ c))
  rw [ex, e1, e2, e3, e4]
  exact congrArg _ hc

/-- What the network leaves at every element of a row some step covers. -/
theorem net_row (R : TabRel m) (Y : S32768x1024.Idx → EReal) (hY : RY m h 0 Y) (i : S32768x1024.Idx)
    (hc : ∃ k : Fin 40, (m (xbLoc 0) (ix1 k) : BitVec 32).toNat * 256 ≤ (i 0).val ∧ (i 0).val < (m (xbLoc 0) (ix1 k) : BitVec 32).toNat * 256 + 256) :
    Y i = netVal m i := by
  obtain ⟨k, hk⟩ := hc
  refine rows_of (F := Ideal) R 0 (fun i v => v = netVal m i) (fun t y => vb_apply R t y) Y hY i ⟨k.val, k.isLt⟩ ?_
  show (m (xbLoc 0) (ix (grid0.coords ⟨k.val, k.isLt⟩)) : BitVec 32).toNat * 256 ≤ _ ∧ _ < (m (xbLoc 0) (ix (grid0.coords ⟨k.val, k.isLt⟩)) : BitVec 32).toNat * 256 + 256
  rw [ix_coords]; exact hk

end Cert.Proof.Gather

end
-- ==== Proof.Ref.lean ====
/-
  The reference read at an index. Every row through every expert's two layers; then, per token, the sum over its two slots of
  the row its position word names, of the expert owning that row, times the slot's weight (`refOut_apply`).
-/
module

public import proofs.«01_k».proof.Proof.Net
public import proofs.«01_k».proof.Proof.Gen.ReferenceIdeal.Run
public import Idealize.ShloMosaic.Lib.Routing.Words
public import Idealize.ShloMosaic.Lib.Pointwise

@[expose] public section

noncomputable section

namespace Cert.Proof.Ref

open Cert.ReferenceIdeal Cert.ReferenceIdeal.Facts Cert.ReferenceIdeal.Facts₀
open Idealize.ShloMosaic

/-! ## The network -/

/-- The first layer before its unit: every row against every expert. -/
def lin1 (x : FVec Ideal S32768x1024 .f32) (w1 : FVec Ideal S8x1024x2048 .f32) (b1 : FVec Ideal S8x2048 .f32) : FVec Ideal S32768x8x2048 .f32 :=
  addf (Host.dotGeneral dot_S32768x1024_S8x1024x2048_S32768x8x2048_1_1_0_02_n_n none x w1)
    (broadcastInDim S32768x8x2048 ![0, 1, 2] bcast_S1x8x2048_S32768x8x2048_0_1_2 (broadcastInDim S1x8x2048 ![1, 2] bcast_S8x2048_S1x8x2048_1_2 b1))

/-- The first layer. -/
def hid (z : FVec Ideal S32768x8x2048 .f32) : FVec Ideal S32768x8x2048 .f32 :=
  select (cmpf .oge z (broadcastInDim S32768x8x2048 ![] bcast_S_S32768x8x2048 (constant S_ .f32 0x00000000#32))) z
    (Host.divf z (broadcastInDim S32768x8x2048 ![] bcast_S_S32768x8x2048 (constant S_ .f32 0x42C80000#32)))

/-- The second layer before its unit. -/
def lin2 (v : FVec Ideal S32768x8x2048 .f32) (w2 : FVec Ideal S8x2048x1024 .f32) (b2 : FVec Ideal S8x1024 .f32) : FVec Ideal S32768x8x1024 .f32 :=
  addf (transpose S32768x8x1024 [2, 0, 1] (Host.dotGeneral dot_S8x2048x1024_S32768x8x2048_S8x1024x32768_1_2_2_0_0_1 none w2 v) transposes_S8x1024x32768_S32768x8x1024_2_0_1)
    (broadcastInDim S32768x8x1024 ![0, 1, 2] bcast_S1x8x1024_S32768x8x1024_0_1_2 (broadcastInDim S1x8x1024 ![1, 2] bcast_S8x1024_S1x8x1024_1_2 b2))

/-- The second layer. -/
def out (z : FVec Ideal S32768x8x1024 .f32) : FVec Ideal S32768x8x1024 .f32 :=
  select (cmpf .oge z (broadcastInDim S32768x8x1024 ![] bcast_S_S32768x8x1024 (constant S_ .f32 0x00000000#32))) z
    (Host.divf z (broadcastInDim S32768x8x1024 ![] bcast_S_S32768x8x1024 (constant S_ .f32 0x42C80000#32)))

/-- A division by one hundred is a product with one hundredth. -/
theorem div_hundred (x : EReal) : Ideal.div x (Ideal.ofBits .f32 0x42C80000#32) = ((1 / 100 : ℝ) : EReal) * x := by
  have w : Ideal.ofBits .f32 0x42C80000#32 = ((100 : ℝ) : EReal) := by
    simp [Ideal.ofBits, Ideal.ieee, -EReal.coe_mul]; norm_num
  rw [w, Ideal.div, if_neg (by norm_num), ← EReal.coe_inv, mul_comm]; norm_num

theorem lin1_apply (x : FVec Ideal S32768x1024 .f32) (w1 : FVec Ideal S8x1024x2048 .f32) (b1 : FVec Ideal S8x2048 .f32)
    (p : Fin 32768) (e : Fin 8) (k : Fin 2048) :
    lin1 x w1 b1 (ix3 p e k) = (∑ j : Fin 1024, x (ix2 p j) * w1 (ix3 e j k)) + b1 (ix2 e k) := by
  pointwise [lin1]

theorem hid_apply (z : FVec Ideal S32768x8x2048 .f32) (p : Fin 32768) (e : Fin 8) (k : Fin 2048) :
    hid z (ix3 p e k) = Gather.leaky (z (ix3 p e k)) := by
  pointwise [hid]
  rw [div_hundred]; rfl

theorem lin2_apply (v : FVec Ideal S32768x8x2048 .f32) (w2 : FVec Ideal S8x2048x1024 .f32) (b2 : FVec Ideal S8x1024 .f32)
    (p : Fin 32768) (e : Fin 8) (c : Fin 1024) :
    lin2 v w2 b2 (ix3 p e c) = (∑ k : Fin 2048, v (ix3 p e k) * w2 (ix3 e k c)) + b2 (ix2 e c) := by
  pointwise [lin2]
  exact congrArg (· + _) (Finset.sum_congr rfl fun k _ => mul_comm _ _)

theorem out_apply (z : FVec Ideal S32768x8x1024 .f32) (p : Fin 32768) (e : Fin 8) (c : Fin 1024) :
    out z (ix3 p e c) = Gather.leaky (z (ix3 p e c)) := by
  pointwise [out]
  rw [div_hundred]; rfl

/-- Every row through every expert. -/
def net (x : FVec Ideal S32768x1024 .f32) (w1 : FVec Ideal S8x1024x2048 .f32) (b1 : FVec Ideal S8x2048 .f32)
    (w2 : FVec Ideal S8x2048x1024 .f32) (b2 : FVec Ideal S8x1024 .f32) : FVec Ideal S32768x8x1024 .f32 :=
  out (lin2 (hid (lin1 x w1 b1)) w2 b2)

theorem net_apply (x : FVec Ideal S32768x1024 .f32) (w1 : FVec Ideal S8x1024x2048 .f32) (b1 : FVec Ideal S8x2048 .f32)
    (w2 : FVec Ideal S8x2048x1024 .f32) (b2 : FVec Ideal S8x1024 .f32) (p : Fin 32768) (e : Fin 8) (c : Fin 1024) :
    net x w1 b1 w2 b2 (ix3 p e c)
      = Gather.ffn (fun j => x (ix2 p j)) (fun j k => w1 (ix3 e j k)) (fun k => b1 (ix2 e k)) (fun k c => w2 (ix3 e k c)) (fun c => b2 (ix2 e c)) c := by
  unfold net Gather.ffn
  rw [out_apply, lin2_apply]
  simp only [hid_apply, lin1_apply]

/-! ## The lookup -/

/-- The positions of both slots as one array: column 0 holds `q0`, column 1 holds `q1`. -/
def pos (q0 q1 : IVec S4096 32) : IVec S4096x2 32 :=
  concatenate S4096x2 1 [⟨S4096x1, broadcastInDim S4096x1 ![0] bcast_S4096_S4096x1_0 q0⟩,
    ⟨S4096x1, broadcastInDim S4096x1 ![0] bcast_S4096_S4096x1_0 q1⟩] concatenates_S4096x1_S4096x1_S4096x2_d1

/-- The positions as the row lookup takes them: a negative word counts from the end. -/
def wrapped (p : IVec S4096x2 32) : IVec S4096x2 32 :=
  select (cmpi .slt p (broadcastInDim S4096x2 ![] bcast_S_S4096x2 (constantI S_ 32 0#32)))
    (addi p (broadcastInDim S4096x2 ![] bcast_S_S4096x2 (constantI S_ 32 32768#32))) p

/-- The expert owning each position: the position's quotient by 4096, rounded down. -/
def owner (p : IVec S4096x2 32) : IVec S4096x2 32 :=
  select (andi (cmpi .ne (signi p) (broadcastInDim S4096x2 ![] bcast_S_S4096x2 (signi (id (constantI S_ 32 4096#32)))))
      (cmpi .ne (Host.remsi p (broadcastInDim S4096x2 ![] bcast_S_S4096x2 (id (constantI S_ 32 4096#32)))) (broadcastInDim S4096x2 ![] bcast_S_S4096x2 (constantI S_ 32 0#32))))
    (subi (Host.divsi p (broadcastInDim S4096x2 ![] bcast_S_S4096x2 (id (constantI S_ 32 4096#32)))) (broadcastInDim S4096x2 ![] bcast_S_S4096x2 (constantI S_ 32 1#32)))
    (Host.divsi p (broadcastInDim S4096x2 ![] bcast_S_S4096x2 (id (constantI S_ 32 4096#32))))

/-- The experts as the lookup takes them: a negative word counts from the end. -/
def wrapped8 (p : IVec S4096x2 32) : IVec S4096x2 32 :=
  select (cmpi .slt p (broadcastInDim S4096x2 ![] bcast_S_S4096x2 (constantI S_ 32 0#32)))
    (addi p (broadcastInDim S4096x2 ![] bcast_S_S4096x2 (constantI S_ 32 8#32))) p

/-- Both words of each lookup: the row's, then the expert's. -/
def pairs (p e : IVec S4096x2 32) : IVec S4096x2x2 32 :=
  concatenate S4096x2x2 2 [⟨S4096x2x1, broadcastInDim S4096x2x1 ![0, 1] bcast_S4096x2_S4096x2x1_0_1 p⟩,
    ⟨S4096x2x1, broadcastInDim S4096x2x1 ![0, 1] bcast_S4096x2_S4096x2x1_0_1 e⟩] concatenates_S4096x2x1_S4096x2x1_S4096x2x2_d2

/-- The reference's result from the network's rows. -/
def refOut (y : FVec Ideal S32768x8x1024 .f32) (q0 q1 : IVec S4096 32) (w : FVec Ideal S4096x2 .f32) : FVec Ideal S4096x1024 .f32 :=
  Host.reduceAdd
    (mulf
      (Host.gather gather_S32768x8x1024_S4096x2x2_S4096x2x1024_2_01_n_n_01_2_111024 y
        (pairs (wrapped (pos q0 q1)) (wrapped8 (owner (pos q0 q1)))))
      (broadcastInDim S4096x2x1024 ![0, 1, 2] bcast_S4096x2x1_S4096x2x1024_0_1_2
        (broadcastInDim S4096x2x1 ![0, 1] bcast_S4096x2_S4096x2x1_0_1 w)))
    (constant S_ .f32 0x00000000#32) reducesTo_S4096x2x1024_S4096x1024_d1 h_S_

/-- The generated run's result is `refOut` of `net`. -/
theorem res_eq (m : (ℓ : Loc nD τ sig) → Buf (Elt Ideal) ℓ) (c : Dev nD) :
    Value.res_main_v40 (F := Ideal) m c
      = refOut (net (m ((c.tc : Thread nD τ).loc main_arg0)) (m ((c.tc : Thread nD τ).loc main_arg7)) (m ((c.tc : Thread nD τ).loc main_arg8))
          (m ((c.tc : Thread nD τ).loc main_arg9)) (m ((c.tc : Thread nD τ).loc main_arg10)))
        (m ((c.tc : Thread nD τ).loc main_arg4)) (m ((c.tc : Thread nD τ).loc main_arg5)) (m ((c.tc : Thread nD τ).loc main_arg6)) := by
  unfold Value.res_main_v40 refOut net out lin2 hid lin1 pairs wrapped wrapped8 owner pos
  rfl

/-- The lookup at token `t`, slot `k`, column `c`: the row and the expert that the words name, each kept inside the array. -/
theorem lookup_apply {α : Type} (y : S32768x8x1024.Idx → α) (p : IVec S4096x2x2 32) (t : Fin 4096) (k : Fin 2) (c : Fin 1024) :
    Host.gather gather_S32768x8x1024_S4096x2x2_S4096x2x1024_2_01_n_n_01_2_111024 y p (ix3 t k c)
      = y (ix3 ⟨min (p (ix3 t k 0)).toInt.toNat 32767, by omega⟩ ⟨min (p (ix3 t k 1)).toInt.toNat 7, by omega⟩ c) := by
  refine congrArg y (funext fun a => Fin.ext ?_)
  show GatherDims.start _ (ix3 t k c) p a + GatherDims.batchCoord _ (ix3 t k c) a + GatherDims.offCoord _ (ix3 t k c) a = _
  rw [GatherDims.batchCoord_eq_zero _ _ a List.not_mem_nil, Nat.add_zero]
  match a with
  | ⟨0, h⟩ =>
    rw [GatherDims.offCoord_eq_zero _ _ _ fun h' => ((GatherDims.mem_sKept _ _).1 h').1 (List.mem_cons_self ..), Nat.add_zero]
    refine (dif_pos (List.mem_cons_self ..)).trans ?_
    refine congrArg (fun i => min (p i).toInt.toNat 32767) (funext fun b => Fin.ext ?_)
    match b with
    | ⟨0, _⟩ => rfl
    | ⟨1, _⟩ => rfl
    | ⟨2, _⟩ => rfl
  | ⟨1, h⟩ =>
    rw [GatherDims.offCoord_eq_zero _ _ _ fun h' => ((GatherDims.mem_sKept _ _).1 h').1 (List.mem_cons_of_mem _ (List.mem_cons_self ..)), Nat.add_zero]
    refine (dif_pos (List.mem_cons_of_mem _ (List.mem_cons_self ..))).trans ?_
    refine congrArg (fun i => min (p i).toInt.toNat 7) (funext fun b => Fin.ext ?_)
    match b with
    | ⟨0, _⟩ => rfl
    | ⟨1, _⟩ => rfl
    | ⟨2, _⟩ => rfl
  | ⟨2, h⟩ =>
    have e : GatherDims.start gather_S32768x8x1024_S4096x2x2_S4096x2x1024_2_01_n_n_01_2_111024 (ix3 t k c) p ⟨2, h⟩ = 0 :=
      dif_neg fun h' => by
        rcases List.mem_cons.1 h' with h' | h'
        · exact absurd (congrArg Fin.val h') (by simp)
        · exact absurd (congrArg Fin.val (List.mem_singleton.1 h')) (by simp)
    rw [e, Nat.zero_add]
    rfl

/-- A word below 32768 is not negative, so the lookup takes it as it stands. -/
theorem word_row (v : BitVec 32) (h : v.toNat < 32768) :
    min (Scalar.select (IntOp.cmpi .slt v 0#32) (IntOp.addi v 32768#32) v).toInt.toNat 32767 = v.toNat := by
  have e : v.toInt = (v.toNat : Int) := BitVec.toInt_eq_toNat_of_lt (by omega)
  have hs : IntOp.cmpi .slt v 0#32 = 0#1 := by
    have : v.slt 0#32 = false := by
      rw [BitVec.slt_eq_decide, e]
      exact decide_eq_false (by simp)
    simp [IntOp.cmpi, this]
  rw [hs]
  have : Scalar.select (0#1) (IntOp.addi v 32768#32) v = v := by simp [Scalar.select]
  rw [this, e]
  omega

/-- The sum over the two slots of a product of two arrays, at the token `t` and the column `c`. -/
theorem slots_apply (g v : FVec Ideal S4096x2x1024 .f32) (t : Fin 4096) (c : Fin 1024) :
    (Host.reduceAdd (mulf g v) (constant S_ .f32 0x00000000#32) reducesTo_S4096x2x1024_S4096x1024_d1 h_S_
        : FVec Ideal S4096x1024 .f32) (ix2 t c)
      = g (ix3 t 0 c) * v (ix3 t 0 c) + g (ix3 t 1 c) * v (ix3 t 1 c) := by
  pointwise
  exact Fin.sum_univ_two _

/-- The weights spread over the columns, at the token `t`, the slot `k` and the column `c`. -/
theorem weight_apply (w : FVec Ideal S4096x2 .f32) (t : Fin 4096) (k : Fin 2) (c : Fin 1024) :
    (broadcastInDim S4096x2x1024 ![0, 1, 2] bcast_S4096x2x1_S4096x2x1024_0_1_2
        (broadcastInDim S4096x2x1 ![0, 1] bcast_S4096x2_S4096x2x1_0_1 w)) (ix3 t k c) = w (ix2 t k) := by
  pointwise

/-- The quotient rounded down of a word below 32768 by 4096 is the natural numbers' quotient. -/
theorem word_quot (v : BitVec 32) (h : v.toNat < 32768) :
    Scalar.select (IntOp.andi
        (IntOp.cmpi .ne (if v = 0 then (0 : BitVec 32) else if v.msb = true then -1 else 1) (if (4096#32 : BitVec 32) = 0 then 0 else if (4096#32 : BitVec 32).msb = true then -1 else 1))
        (IntOp.cmpi .ne (IntOp.remsi ArithUnit.host v 4096#32) 0#32))
      (IntOp.subi (IntOp.divsi ArithUnit.host v 4096#32) 1#32) (IntOp.divsi ArithUnit.host v 4096#32) = BitVec.ofNat 32 (v.toNat / 4096) := by
  obtain ⟨n, hn, rfl⟩ : ∃ n, n < 32768 ∧ v = BitVec.ofNat 32 n := ⟨v.toNat, h, by simp⟩
  have hm : (BitVec.ofNat 32 n).toNat = n := by rw [BitVec.toNat_ofNat]; omega
  have hq : IntOp.divsi ArithUnit.host (BitVec.ofNat 32 n) 4096#32 = BitVec.ofNat 32 (n / 4096) :=
    Routing.divsi_word ArithUnit.host (b := 4096) (by omega) (by omega) (by omega)
  have hr : IntOp.remsi ArithUnit.host (BitVec.ofNat 32 n) 4096#32 = BitVec.ofNat 32 (n % 4096) :=
    Routing.remsi_word ArithUnit.host (b := 4096) (by omega) (by omega) (by omega)
  rw [hq, hr, hm]
  have hz : Scalar.select (α := BitVec 32) (0#1) (IntOp.subi (BitVec.ofNat 32 (n / 4096)) 1#32) (BitVec.ofNat 32 (n / 4096)) = BitVec.ofNat 32 (n / 4096) := by
    simp [Scalar.select]
  by_cases h0 : n = 0
  · subst h0; decide
  · have hne : ¬ BitVec.ofNat 32 n = 0 := fun e => h0 (by have := congrArg BitVec.toNat e; rw [hm] at this; exact this)
    have hmsb : ¬ (BitVec.ofNat 32 n).msb = true := by
      rw [BitVec.msb_eq_decide, hm, decide_eq_true_eq]; omega
    rw [if_neg hne, if_neg hmsb]
    refine Eq.trans ?_ hz
    refine congrArg (fun b : BitVec 1 => Scalar.select b _ _) ?_
    have h1 : IntOp.cmpi .ne (1 : BitVec 32) (if (4096#32 : BitVec 32) = 0 then 0 else if (4096#32 : BitVec 32).msb = true then -1 else 1) = 0#1 := by decide
    rw [h1]
    exact (by decide : ∀ b : BitVec 1, IntOp.andi 0#1 b = 0#1) _

theorem pairs_apply0 (p e : IVec S4096x2 32) (t : Fin 4096) (k : Fin 2) : pairs p e (ix3 t k 0) = p (ix2 t k) := by
  pointwise [pairs]
theorem pairs_apply1 (p e : IVec S4096x2 32) (t : Fin 4096) (k : Fin 2) : pairs p e (ix3 t k 1) = e (ix2 t k) := by
  pointwise [pairs]

theorem owner_apply (p : IVec S4096x2 32) (i : S4096x2.Idx) (h : (p i).toNat < 32768) : owner p i = BitVec.ofNat 32 ((p i).toNat / 4096) := by
  refine Eq.trans ?_ (word_quot (p i) h)
  pointwise [owner]
  rfl

/-- A word below 8 is not negative, so the lookup takes it as it stands. -/
theorem word_expert (e : ℕ) (h : e < 8) :
    min (Scalar.select (IntOp.cmpi .slt (BitVec.ofNat 32 e) 0#32) (IntOp.addi (BitVec.ofNat 32 e) 8#32) (BitVec.ofNat 32 e)).toInt.toNat 7 = e := by
  have key : ∀ e : Fin 8, min (Scalar.select (IntOp.cmpi .slt (BitVec.ofNat 32 e.val) 0#32) (IntOp.addi (BitVec.ofNat 32 e.val) 8#32) (BitVec.ofNat 32 e.val)).toInt.toNat 7 = e.val := by decide
  exact key ⟨e, h⟩

/-- The reference's result at the token `t` and the column `c`, its positions in range: the two named rows, each through the expert
    owning it and times its weight, added. -/
theorem refOut_apply (y : FVec Ideal S32768x8x1024 .f32) (q0 q1 : IVec S4096 32) (w : FVec Ideal S4096x2 .f32)
    (h0 : ∀ j, (q0 j).toNat < 32768) (h1 : ∀ j, (q1 j).toNat < 32768) (t : Fin 4096) (c : Fin 1024) :
    refOut y q0 q1 w (ix2 t c)
      = y (ix3 ⟨(q0 (ix1 t)).toNat, h0 _⟩ ⟨(q0 (ix1 t)).toNat / 4096, Nat.div_lt_of_lt_mul (h0 _)⟩ c) * w (ix2 t 0)
        + y (ix3 ⟨(q1 (ix1 t)).toNat, h1 _⟩ ⟨(q1 (ix1 t)).toNat / 4096, Nat.div_lt_of_lt_mul (h1 _)⟩ c) * w (ix2 t 1) := by
  have p0 : pos q0 q1 (ix2 t 0) = q0 (ix1 t) := by pointwise [pos]
  have p1 : pos q0 q1 (ix2 t 1) = q1 (ix1 t) := by pointwise [pos]
  have ew : ∀ (p : IVec S4096x2 32) (i : S4096x2.Idx), wrapped p i = Scalar.select (IntOp.cmpi .slt (p i) 0#32) (IntOp.addi (p i) 32768#32) (p i) := by
    intro p i; pointwise [wrapped]
  have e8 : ∀ (p : IVec S4096x2 32) (i : S4096x2.Idx), wrapped8 p i = Scalar.select (IntOp.cmpi .slt (p i) 0#32) (IntOp.addi (p i) 8#32) (p i) := by
    intro p i; pointwise [wrapped8]
  have r0 : ∀ (k : Fin 2) (v : BitVec 32) (hv : v.toNat < 32768), pos q0 q1 (ix2 t k) = v →
      min (pairs (wrapped (pos q0 q1)) (wrapped8 (owner (pos q0 q1))) (ix3 t k 0)).toInt.toNat 32767 = v.toNat := by
    rintro k v hv rfl
    rw [pairs_apply0, ew]; exact word_row _ hv
  have r1 : ∀ (k : Fin 2) (v : BitVec 32) (hv : v.toNat < 32768), pos q0 q1 (ix2 t k) = v →
      min (pairs (wrapped (pos q0 q1)) (wrapped8 (owner (pos q0 q1))) (ix3 t k 1)).toInt.toNat 7 = v.toNat / 4096 := by
    rintro k v hv rfl
    rw [pairs_apply1, e8, owner_apply _ _ hv]; exact word_expert _ (Nat.div_lt_of_lt_mul hv)
  unfold refOut
  rw [slots_apply, lookup_apply, lookup_apply, weight_apply, weight_apply]
  refine congrArg₂ (· + ·) (congrArg (· * _) (congrArg y ?_)) (congrArg (· * _) (congrArg y ?_))
  · exact congrArg₂ (ix3 · · c) (Fin.ext (r0 0 _ (h0 _) p0)) (Fin.ext (r1 0 _ (h0 _) p0))
  · exact congrArg₂ (ix3 · · c) (Fin.ext (r0 1 _ (h1 _) p1)) (Fin.ext (r1 1 _ (h1 _) p1))

end Cert.Proof.Ref

end
-- ==== Proof.LossKernel.lean ====
/-
  The routing call's sums read as values: a row's probabilities, and what a block of 256 rows adds to the running sums
  of the eight experts' probabilities.
-/
module

public import proofs.«01_k».proof.Proof.Gen.RouterIdeal.Value
public import Idealize.ShloMosaic.Lib.Pointwise
public import Idealize.ShloMosaic.Lib.Pipeline.ValueKit

@[expose] public section

noncomputable section

namespace Cert.Proof.Loss

open Cert.RouterIdeal Cert.RouterIdeal.Gen
open Idealize.ShloMosaic

/-- The greatest of a row's eight scores. -/
def top (l : Fin 8 → EReal) : EReal := Finset.univ.fold max (Ideal.ofBits .f32 0xFF800000#32) l

/-- A row's eight probabilities: the exponentials of the scores less the greatest, over their sum. -/
def prob (l : Fin 8 → EReal) (e : Fin 8) : EReal :=
  Ideal.div (Ideal.exp (l e - top l)) (∑ k : Fin 8, Ideal.exp (l k - top l))

/-- A token's eight scores: its row times the router's matrix, plus the bias. -/
def scores (x : Fin 1024 → EReal) (w : Fin 1024 → Fin 8 → EReal) (b : Fin 8 → EReal) (e : Fin 8) : EReal :=
  (∑ k : Fin 1024, x k * w k e) + b e

/-- A block's probabilities at a row and an expert. -/
theorem pay21_apply (x : FVec Ideal S256x1024 .f32) (w : FVec Ideal S1024x8 .f32) (b : FVec Ideal S1x8 .f32)
    (r : Fin 256) (e : Fin 8) :
    k0_pay21 (F := Ideal) x w b (ix2 r e)
      = prob (scores (fun k => x (ix2 r k)) (fun k e => w (ix2 k e)) fun e => b (ix2 0 e)) e := by
  pointwise [k0_pay21]
  rfl

/-- The running sums after a block: what they were plus the sum of the block's probabilities over its rows. -/
theorem pay1_apply (p : FVec Ideal S256x8 .f32) (a : FVec Ideal S1x8 .f32) (e : Fin 8) :
    k0_pay1 (F := Ideal) p a (ix2 0 e) = a (ix2 0 e) + ∑ r : Fin 256, p (ix2 r e) := by
  pointwise [k0_pay1]

/-- The sums start at zero. -/
theorem pay19_apply (e : Fin 8) : k0_pay19 (F := Ideal) (ix2 0 e) = 0 := by
  pointwise [k0_pay19]

/-- The loss of the finished sums: each share's distance from one eighth, squared, added up and scaled. -/
theorem pay5_apply (a : FVec Ideal S1x8 .f32) :
    k0_pay5 (F := Ideal) a (ix2 0 0)
      = (∑ e : Fin 8, (Ideal.ofBits .f32 0x3E000000#32 - Ideal.div (a (ix2 0 e)) (Ideal.ofBits .f32 0x45800000#32))
          * (Ideal.ofBits .f32 0x3E000000#32 - Ideal.div (a (ix2 0 e)) (Ideal.ofBits .f32 0x45800000#32)))
        * Ideal.ofBits .f32 0x3751B717#32 := by
  pointwise [k0_pay5]

variable (m : (ℓ : Loc nD τ sig) → Buf (Elt Ideal) ℓ) (c : Dev nD)

/-- The running sums after the first point. -/
theorem sums_first (t : Fin cfg0.N) (h0 : t.val % 16 = 0) (h1 : ¬t.val % 16 = 15) :
    (outsAt0 m c t.val t.isLt).2.2.2.2.2.2.2.1
      = k0_pay1 (F := Ideal) (k0_pay21 (F := Ideal) (iblk m c 0 t) (iblk m c 1 t) (iblk m c 2 t)) (k0_pay19 (F := Ideal)) := by
  rw [outsAt0_A m c t h0 h1]
  dsimp only
  frame_out

/-- The running sums after a later point. -/
theorem sums_next (t : Fin cfg0.N) (h0 : ¬t.val % 16 = 0) (h1 : ¬t.val % 16 = 15) :
    (outsAt0 m c t.val t.isLt).2.2.2.2.2.2.2.1
      = k0_pay1 (F := Ideal) (k0_pay21 (F := Ideal) (iblk m c 0 t) (iblk m c 1 t) (iblk m c 2 t))
          (outsAt0 m c (t.val - 1) (by omega)).2.2.2.2.2.2.2.1 := by
  rw [outsAt0_B m c t h0 h1]
  dsimp only
  frame_out
  exact congrArg (k0_pay1 _) ((Memref.isWhole_whole _).read_unread _)

/-- The loss after the last point, of the running sums there. -/
theorem loss_last (t : Fin cfg0.N) (h0 : ¬t.val % 16 = 0) (h1 : t.val % 16 = 15) :
    (outsAt0 m c t.val t.isLt).2.2.2.2.2.2.1
      = k0_pay5 (F := Ideal) (k0_pay1 (F := Ideal) (k0_pay21 (F := Ideal) (iblk m c 0 t) (iblk m c 1 t) (iblk m c 2 t))
          (outsAt0 m c (t.val - 1) (by omega)).2.2.2.2.2.2.2.1) := by
  rw [outsAt0_C m c t h0 h1]
  dsimp only
  frame_out
  exact congrArg (fun a => k0_pay5 (k0_pay1 _ a)) ((Memref.isWhole_whole _).read_unread _)

/-- Which block each operand's window takes at a point: the point's own 256 rows of the tokens, the whole of the others. -/
theorem idx : ∀ t : Fin cfg0.N, win0_0.index t = ![t.val, 0] ∧ win0_1.index t = ![0, 0] ∧ win0_2.index t = ![0, 0] := by
  decide

/-- There are sixteen points. -/
theorem points (t : Fin cfg0.N) : t.val < 16 := lt_of_lt_of_eq t.isLt N_0

/-- The tokens as 4096 rows. -/
def rows (x : FVec Ideal S2x2048x1024 .f32) : FVec Ideal S4096x1024 .f32 :=
  shapeCast S4096x1024 x shapeCasts_S2x2048x1024_S4096x1024

/-- The block of tokens at a point. -/
theorem blk_x (t : Fin cfg0.N) (r : Fin 256) (k : Fin 1024) :
    iblk m c 0 t (ix2 r k)
      = rows (m ((c.tc : Thread nD τ).loc main_arg0)) (ix2 ⟨t.val * 256 + r.val, by have := points t; omega⟩ k) := by
  unfold rows
  blk_ext! [iblk, idx t]

/-- The router's matrix at a point. -/
theorem blk_w (t : Fin cfg0.N) (k : Fin 1024) (e : Fin 8) :
    iblk m c 1 t (ix2 k e) = m ((c.tc : Thread nD τ).loc main_arg1) (ix2 k e) := by
  blk_ext! [iblk, idx t]

/-- The router's bias at a point. -/
theorem blk_b (t : Fin cfg0.N) (e : Fin 8) :
    iblk m c 2 t (ix2 0 e) = m ((c.tc : Thread nD τ).loc main_arg2) (ix1 e) := by
  blk_ext! [iblk, idx t]

/-- A token's probability of an expert, of the arguments of the call. -/
def tok (x : FVec Ideal S2x2048x1024 .f32) (w : FVec Ideal S1024x8 .f32) (b : FVec Ideal S8 .f32) (t : Fin 4096) (e : Fin 8) : EReal :=
  prob (scores (fun k => rows x (ix2 t k)) (fun k e => w (ix2 k e)) fun e => b (ix1 e)) e

/-- The arguments' token probability on this device, over all numbers: nothing past the last token. -/
def tokAt (e : Fin 8) (n : ℕ) : EReal :=
  if h : n < 4096 then
    tok (m ((c.tc : Thread nD τ).loc main_arg0)) (m ((c.tc : Thread nD τ).loc main_arg1)) (m ((c.tc : Thread nD τ).loc main_arg2)) ⟨n, h⟩ e
  else 0

/-- What a point adds to the sums: its 256 tokens' probabilities. -/
theorem block_sum (t : Fin cfg0.N) (e : Fin 8) :
    ∑ r : Fin 256, k0_pay21 (F := Ideal) (iblk m c 0 t) (iblk m c 1 t) (iblk m c 2 t) (ix2 r e)
      = ∑ r ∈ Finset.range 256, tokAt m c e (t.val * 256 + r) := by
  rw [← Fin.sum_univ_eq_sum_range (fun r => tokAt m c e (t.val * 256 + r))]
  refine Finset.sum_congr rfl fun r _ => ?_
  have hr : t.val * 256 + r.val < 4096 := by have := points t; omega
  rw [pay21_apply]
  unfold tokAt tok
  rw [dif_pos hr]
  simp only [blk_x, blk_w, blk_b]

/-- The running sums after a point before the last: all tokens' probabilities so far. -/
theorem sums_eq (e : Fin 8) : ∀ (n : ℕ) (h : n < cfg0.N), n < 15 →
    (outsAt0 m c n h).2.2.2.2.2.2.2.1 (ix2 0 e)
      = ∑ s ∈ Finset.range (n + 1), ∑ r ∈ Finset.range 256, tokAt m c e (s * 256 + r)
  | 0, h, _ => by
    refine (congrFun (sums_first m c ⟨0, h⟩ rfl (by show ¬0 % 16 = 15; decide)) (ix2 0 e)).trans ?_
    rw [pay1_apply, pay19_apply, zero_add, block_sum, Finset.sum_range_one]
  | n + 1, h, hn => by
    refine (congrFun (sums_next m c ⟨n + 1, h⟩ (by show ¬(n + 1) % 16 = 0; omega) (by show ¬(n + 1) % 16 = 15; omega)) (ix2 0 e)).trans ?_
    rw [pay1_apply, block_sum, Finset.sum_range_succ _ (n + 1)]
    exact congrArg (· + _) (sums_eq e n _ (by omega))

/-- The loss of the eight sums of probabilities. -/
def lossOf (a : Fin 8 → EReal) : EReal :=
  (∑ e : Fin 8, (Ideal.ofBits .f32 0x3E000000#32 - Ideal.div (a e) (Ideal.ofBits .f32 0x45800000#32))
      * (Ideal.ofBits .f32 0x3E000000#32 - Ideal.div (a e) (Ideal.ofBits .f32 0x45800000#32)))
    * Ideal.ofBits .f32 0x3751B717#32

/-- What the call returns: the loss of the sums of all tokens' probabilities. -/
theorem loss_eq (i : S1x1.Idx) :
    Value.G9 m c i
      = lossOf fun e => ∑ t : Fin 4096, tok (m ((c.tc : Thread nD τ).loc main_arg0)) (m ((c.tc : Thread nD τ).loc main_arg1))
          (m ((c.tc : Thread nD τ).loc main_arg2)) t e := by
  have h15 : 15 < cfg0.N := lt_of_lt_of_eq (by decide) N_0.symm
  rw [Value.G9_last, ← Value.outsAt0_sweep m c 15 h15, loss_last m c ⟨15, h15⟩ (by show ¬15 % 16 = 0; decide) (by show 15 % 16 = 15; decide)]
  obtain rfl : i = ix2 0 0 := by rw [eq_ix2 i]; congr <;> exact Subsingleton.elim _ _
  rw [pay5_apply]
  unfold lossOf
  have hs : ∀ e : Fin 8, k0_pay1 (F := Ideal) (k0_pay21 (F := Ideal) (iblk m c 0 ⟨15, h15⟩) (iblk m c 1 ⟨15, h15⟩) (iblk m c 2 ⟨15, h15⟩))
        (outsAt0 m c (15 - 1) (by omega)).2.2.2.2.2.2.2.1 (ix2 0 e)
      = ∑ t : Fin 4096, tok (m ((c.tc : Thread nD τ).loc main_arg0)) (m ((c.tc : Thread nD τ).loc main_arg1))
          (m ((c.tc : Thread nD τ).loc main_arg2)) t e := fun e => by
    rw [pay1_apply, block_sum, sums_eq m c e _ _ (by decide)]
    refine (Finset.sum_range_succ (fun s => ∑ r ∈ Finset.range 256, tokAt m c e (s * 256 + r)) 15).symm.trans ?_
    rw [Finset.sum_range_range_mul_add 16 256 (tokAt m c e), ← Fin.sum_univ_eq_sum_range (tokAt m c e) (16 * 256)]
    exact Finset.sum_congr rfl fun t _ => dif_pos t.isLt
  simp only [hs]

end Cert.Proof.Loss

end
-- ==== Proof.LossRef.lean ====
/-
  The reference loss read as a value: the scores, the softmax over the experts, the mean over the tokens and the mean
  squared distance from an equal share (`refLoss_eq`).
-/
module

public import proofs.«01_k».proof.Proof.LossKernel
public import proofs.«01_k».proof.Proof.Gen.LossIdeal.Run
public import Idealize.ShloMosaic.Lib.Pointwise

@[expose] public section

noncomputable section

namespace Cert.Proof.Loss

open Cert.LossIdeal Cert.LossIdeal.Gen
open Idealize.ShloMosaic

/-- The reference's scores. -/
def refScores (x : FVec Ideal S2x2048x1024 .f32) (w : FVec Ideal S1024x8 .f32) (b : FVec Ideal S8 .f32) : FVec Ideal S4096x8 .f32 :=
  addf (Host.dotGeneral dot_S4096x1024_S1024x8_S4096x8_1_0_0_1_n_n none (shapeCast S4096x1024 x shapeCasts_S2x2048x1024_S4096x1024) w)
    (broadcastInDim S4096x8 ![0, 1] bcast_S1x8_S4096x8_0_1 (broadcastInDim S1x8 ![1] bcast_S8_S1x8_1 b))

/-- The exponentials of the scores less each row's greatest. -/
def refExp (l : FVec Ideal S4096x8 .f32) : FVec Ideal S4096x8 .f32 :=
  Host.exp (subf l (broadcastInDim S4096x8 ![0, 1] bcast_S4096x1_S4096x8_0_1 (broadcastInDim S4096x1 ![0] bcast_S4096_S4096x1_0
    (maximumf (broadcastInDim S4096 ![] bcast_S_S4096 (constant S_ .f32 0xFF800000#32))
      (Host.reduce FloatOps.maximumf l (constant S_ .f32 0xFF800000#32) reducesTo_S4096x8_S4096_d1 h_S_)))))

/-- The reference's probabilities of its scores. -/
def refProb (l : FVec Ideal S4096x8 .f32) : FVec Ideal S4096x8 .f32 :=
  Host.divf (refExp l) (broadcastInDim S4096x8 ![0, 1] bcast_S4096x1_S4096x8_0_1 (broadcastInDim S4096x1 ![0] bcast_S4096_S4096x1_0
    (Host.reduceAdd (refExp l) (constant S_ .f32 0x00000000#32) reducesTo_S4096x8_S4096_d1 h_S_)))

/-- The experts' shares' distances from an equal share. -/
def refDist (p : FVec Ideal S4096x8 .f32) : FVec Ideal S8 .f32 :=
  subf (Host.divf (broadcastInDim S8 ![] bcast_S_S8 (constant S_ .f32 0x3F800000#32)) (broadcastInDim S8 ![] bcast_S_S8 (constant S_ .f32 0x41000000#32)))
    (Host.divf (Host.reduceAdd p (constant S_ .f32 0x00000000#32) reducesTo_S4096x8_S8_d0 h_S_)
      (broadcastInDim S8 ![] bcast_S_S8 (constant S_ .f32 0x45800000#32)))

/-- The reference's loss of the distances. -/
def refMean (d : FVec Ideal S8 .f32) : FVec Ideal S1x1 .f32 :=
  shapeCast S1x1 (mulf (Host.divf (Host.reduceAdd (mulf d d) (constant S_ .f32 0x00000000#32) reducesTo_S8_S_d0 h_S_)
    (constant S_ .f32 0x41000000#32)) (constant S_ .f32 0x38D1B717#32)) shapeCasts_S_S1x1

/-- The reference's loss, of its arguments. -/
def refLoss (x : FVec Ideal S2x2048x1024 .f32) (w : FVec Ideal S1024x8 .f32) (b : FVec Ideal S8 .f32) : FVec Ideal S1x1 .f32 :=
  refMean (refDist (refProb (refScores x w b)))

/-- A score of the reference. -/
theorem refScores_apply (x : FVec Ideal S2x2048x1024 .f32) (w : FVec Ideal S1024x8 .f32) (b : FVec Ideal S8 .f32)
    (t : Fin 4096) (e : Fin 8) :
    refScores x w b (ix2 t e) = scores (fun k => rows x (ix2 t k)) (fun k e => w (ix2 k e)) (fun e => b (ix1 e)) e := by
  unfold scores rows
  pointwise [refScores]

/-- The greatest of a row is not below where its fold starts. -/
theorem top_max (l : Fin 8 → EReal) : max (Ideal.ofBits .f32 0xFF800000#32) (top l) = top l :=
  max_eq_right (Finset.le_fold_max _ |>.2 (.inl le_rfl))

/-- An exponential of the reference. -/
theorem refExp_apply (l : FVec Ideal S4096x8 .f32) (t : Fin 4096) (e : Fin 8) :
    refExp l (ix2 t e) = Ideal.exp (l (ix2 t e) - top fun k => l (ix2 t k)) := by
  refine Eq.trans ?_ (congrArg (fun v => Ideal.exp (l (ix2 t e) - v)) (top_max fun k => l (ix2 t k)))
  unfold top
  pointwise [refExp]

/-- A probability of the reference. -/
theorem refProb_apply (l : FVec Ideal S4096x8 .f32) (t : Fin 4096) (e : Fin 8) :
    refProb l (ix2 t e) = prob (fun k => l (ix2 t k)) e := by
  have h : refProb l (ix2 t e) = Ideal.div (refExp l (ix2 t e)) (∑ k : Fin 8, refExp l (ix2 t k)) := by
    unfold refProb
    generalize refExp l = x
    pointwise
  rw [h]
  simp only [refExp_apply]
  rfl

/-- A distance of the reference. -/
theorem refDist_apply (p : FVec Ideal S4096x8 .f32) (e : Fin 8) :
    refDist p (ix1 e) = Ideal.div (Ideal.ofBits .f32 0x3F800000#32) (Ideal.ofBits .f32 0x41000000#32)
      - Ideal.div (∑ t : Fin 4096, p (ix2 t e)) (Ideal.ofBits .f32 0x45800000#32) := by
  pointwise [refDist]

/-- The reference's loss of the distances, at its one place. -/
theorem refMean_apply (d : FVec Ideal S8 .f32) :
    refMean d (ix2 0 0)
      = Ideal.div (∑ e : Fin 8, d (ix1 e) * d (ix1 e)) (Ideal.ofBits .f32 0x41000000#32) * Ideal.ofBits .f32 0x38D1B717#32 := by
  pointwise [refMean]

/-- The word of one. -/
theorem word_one : Ideal.ofBits .f32 0x3F800000#32 = ((1 : ℝ) : EReal) := by
  simp [Ideal.ofBits, Ideal.ieee, -EReal.coe_mul]; norm_num

/-- The word of eight. -/
theorem word_eight : Ideal.ofBits .f32 0x41000000#32 = ((8 : ℝ) : EReal) := by
  simp [Ideal.ofBits, Ideal.ieee, -EReal.coe_mul]; norm_num

/-- The word of an eighth. -/
theorem word_eighth : Ideal.ofBits .f32 0x3E000000#32 = ((1 / 8 : ℝ) : EReal) := by
  simp [Ideal.ofBits, Ideal.ieee, -EReal.coe_mul]; norm_num

/-- The word of the loss's weight. -/
theorem word_weight : Ideal.ofBits .f32 0x38D1B717#32 = ((13743895 / 137438953472 : ℝ) : EReal) := by
  simp [Ideal.ofBits, Ideal.ieee, -EReal.coe_mul]; norm_num

/-- The word of the weight's eighth. -/
theorem word_weight_eighth : Ideal.ofBits .f32 0x3751B717#32 = ((13743895 / 1099511627776 : ℝ) : EReal) := by
  simp [Ideal.ofBits, Ideal.ieee, -EReal.coe_mul]; norm_num

/-- Dividing by eight is multiplying by an eighth. -/
theorem div_eight (v : EReal) : Ideal.div v (Ideal.ofBits .f32 0x41000000#32) = v * ((1 / 8 : ℝ) : EReal) := by
  rw [word_eight, Ideal.div, if_neg (by norm_num), ← EReal.coe_inv]
  norm_num

/-- The word for an eighth is one over the word for eight. -/
theorem eighth : Ideal.div (Ideal.ofBits .f32 0x3F800000#32) (Ideal.ofBits .f32 0x41000000#32) = Ideal.ofBits .f32 0x3E000000#32 := by
  rw [div_eight, word_one, word_eighth, ← EReal.coe_mul, one_mul]

/-- An eighth of a number times the loss's weight is the number times the weight's eighth: the two words' values are
    exactly eight apart. -/
theorem weight_eighth (v : EReal) :
    Ideal.div v (Ideal.ofBits .f32 0x41000000#32) * Ideal.ofBits .f32 0x38D1B717#32 = v * Ideal.ofBits .f32 0x3751B717#32 := by
  rw [div_eight, mul_assoc, word_weight, word_weight_eighth, ← EReal.coe_mul]
  norm_num

/-- The reference's loss is the call's: the loss of the sums of all tokens' probabilities. -/
theorem refLoss_eq (x : FVec Ideal S2x2048x1024 .f32) (w : FVec Ideal S1024x8 .f32) (b : FVec Ideal S8 .f32) (i : S1x1.Idx) :
    refLoss x w b i = lossOf fun e => ∑ t : Fin 4096, tok x w b t e := by
  obtain rfl : i = ix2 0 0 := by rw [eq_ix2 i]; congr <;> exact Subsingleton.elim _ _
  unfold refLoss lossOf tok
  rw [refMean_apply, weight_eighth]
  simp only [refDist_apply, refProb_apply, refScores_apply, eighth]

end Cert.Proof.Loss

end
-- ==== Proof.lean ====
/-
  The certificate: every claim of the statement, from the kernel's run (Proof/Run.lean) and its text as printed
  (Proof/Printed.lean), the experts' network row by row (Proof/Net.lean), the preconditions read back (Proof/Pre.lean) and the
  reference read at an index (Proof/Ref.lean); for the router's loss, from the kernel's and the reference's loss as one formula
  (Proof/LossKernel.lean, Proof/LossRef.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_in_range
public import proofs.«01_k».proof.Proof.Gen.Router
public import proofs.«01_k».proof.Proof.Gen.Router.Frame
public import proofs.«01_k».proof.Proof.Gen.RouterIdeal
public import proofs.«01_k».proof.Proof.Gen.RouterIdeal.Value
public import proofs.«01_k».proof.Proof.Gen.LossIdeal
public import proofs.«01_k».proof.Proof.Gen.LossIdeal.Run
public import proofs.«01_k».proof.Proof.Run
public import proofs.«01_k».proof.Proof.Printed
public import proofs.«01_k».proof.Proof.Pre
public import proofs.«01_k».proof.Proof.Ref
public import proofs.«01_k».proof.Proof.LossKernel
public import proofs.«01_k».proof.Proof.LossRef

@[expose] public section

noncomputable section

namespace Cert.Proof

open Idealize.ShloMosaic

/-- For any float values: with positions naming rows and the tables' words naming experts and blocks the kernel ends, faults
    nowhere, leaves its arguments as they were and every semaphore at zero. -/
theorem frame_at {F : FTy → Type} [FloatOps F] [Named F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hp : Gather.PosOK m) (ht : Gather.TabOK m) :
    θ_run (Cert.KernelIdeal.defs (F := F)) (Cert.KernelIdeal.threads (F := F)) ⟨m, fun _ => 0, ρ⟩ fun r =>
      (∀ c : Dev Cert.KernelIdeal.nD, Gather.Kept m c r.2.mem) ∧ r.2.sem = fun _ => 0 :=
  (θ_run Cert.KernelIdeal.defs _ _).mono (fun _ h => ⟨fun c => (h.1 c).2, h.2⟩) (Gather.run_main m ht ρ hp)

attribute [local instance] Pre.tables_facts

/-- The kernel as printed, over bit patterns: its text is the exact program's text, the named constant read as its bits. -/
theorem frame_kernel : Cert.quiescent_Kernel := fun m ρ hpre => by
  have hr := fun d => Pre.in_range _ _ _ _ _ _ _ _ _ _ _ (hpre d)
  exact Printed.frame (F := Bits) m ρ (fun d j => ⟨(hr d).1 j, (hr d).2.1 j⟩) fun d j => ⟨(hr d).2.2.1 j, (hr d).2.2.2 j⟩

/-- The kernel over exact values. -/
theorem frame_kernelIdeal : Cert.quiescent_KernelIdeal := fun m ρ hpre => by
  have hr := fun d => Pre.in_range _ _ _ _ _ _ _ _ _ _ _ (hpre d)
  exact frame_at (F := Ideal) m ρ (fun d j => ⟨(hr d).1 j, (hr d).2.1 j⟩) fun d j => ⟨(hr d).2.2.1 j, (hr d).2.2.2 j⟩

/-- The same where the tables are in order. -/
theorem frame_kernelIdeal_tables : Cert.quiescent_KernelIdeal_pre_tables_ok := fun m ρ hpre => by
  have hr := fun d => (Pre.tables _ _ _ _ _ _ _ _ _ _ _ (hpre d)).1
  exact frame_at (F := Ideal) m ρ (fun d j => ⟨(hr d).1 j, (hr d).2.1 j⟩) fun d j => ⟨(hr d).2.2.1 j, (hr d).2.2.2 j⟩

/-- The reference ends with its arguments as they were; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same where the precondition is given: it is not needed. -/
theorem frame_reference_tables : Cert.quiescent_ReferenceIdeal_pre_tables_ok := fun m ρ _ =>
  frame_reference m ρ trivial

/-- The two roundings of the slope, each named one hundredth. -/
theorem preserves : Cert.preserves_Kernel_KernelIdeal :=
  ⟨IdealRules.named_const.statement Cert.KernelIdeal.κ "slope" .bf16 0x3C24#16 ((1 / 100 : ℝ) : EReal) rfl,
    IdealRules.named_const.statement Cert.KernelIdeal.κ "slope" .f32 0x3C23D70A#32 ((1 / 100 : ℝ) : EReal) rfl⟩

/-! ## The kernel's result -/

section Result

open Cert.KernelIdeal

variable (m : (ℓ : Loc nD τ sig) → Buf (Elt Ideal) ℓ)

/-- The reference's formula over the kernel's arguments. -/
def out (c : Dev nD) : FVec Ideal S4096x1024 .f32 :=
  Ref.refOut (Ref.net (m (Gather.xsLoc c)) (m (Gather.w1Loc c)) (m (Gather.b1Loc c)) (m (Gather.w2Loc c)) (m (Gather.b2Loc c)))
    (m (Gather.p0Loc c)) (m (Gather.p1Loc c)) (m (Gather.wLoc c))

variable {m}

/-- A gathered row at the first position list, over the experts' network. -/
theorem row0 {h : Gather.TabOK m} (R : Gather.TabRel m) (hp : Gather.PosOK m) (t : Fin 4096) (c : Fin 1024)
    (hc : ∃ k : Fin 40, (m (Gather.xbLoc 0) (ix1 k) : BitVec 32).toNat * 256 ≤ (m (Gather.p0Loc 0) (ix1 t) : BitVec 32).toNat
      ∧ (m (Gather.p0Loc 0) (ix1 t) : BitVec 32).toNat < (m (Gather.xbLoc 0) (ix1 k) : BitVec 32).toNat * 256 + 256)
    (v : EReal) (hv : Gather.Good m (Gather.RY m h) 0 (ValueIdx.ix2 (⟨t.val, by omega⟩ : Fin 8192) c) v) :
    v = Gather.netVal m (ix2 (⟨(m (Gather.p0Loc 0) (ix1 t) : BitVec 32).toNat, (hp 0 _).1⟩ : Fin 32768) c) := by
  obtain ⟨Y, hY, rfl⟩ := hv
  have e : Gather.gY m 0 Y (ValueIdx.ix2 (⟨t.val, by omega⟩ : Fin 8192) c)
      = Y (ix2 (⟨(m (Gather.p0Loc 0) (ix1 t) : BitVec 32).toNat, (hp 0 _).1⟩ : Fin 32768) c) := by
    unfold Gather.gY Gather.gVal
    refine (dif_pos (show t.val < 4096 from t.isLt)).trans ?_
    exact congrArg Y (congrArg (ix2 · c) (Fin.ext (Gather.rowOf_val (hp 0 (ix1 t)).1)))
  rw [e]
  exact Gather.net_row R Y hY _ hc

/-- A gathered row at the second position list. -/
theorem row1 {h : Gather.TabOK m} (R : Gather.TabRel m) (hp : Gather.PosOK m) (t : Fin 4096) (c : Fin 1024)
    (hc : ∃ k : Fin 40, (m (Gather.xbLoc 0) (ix1 k) : BitVec 32).toNat * 256 ≤ (m (Gather.p1Loc 0) (ix1 t) : BitVec 32).toNat
      ∧ (m (Gather.p1Loc 0) (ix1 t) : BitVec 32).toNat < (m (Gather.xbLoc 0) (ix1 k) : BitVec 32).toNat * 256 + 256)
    (v : EReal) (hv : Gather.Good m (Gather.RY m h) 0 (ValueIdx.ix2 (⟨4096 + t.val, by omega⟩ : Fin 8192) c) v) :
    v = Gather.netVal m (ix2 (⟨(m (Gather.p1Loc 0) (ix1 t) : BitVec 32).toNat, (hp 0 _).2⟩ : Fin 32768) c) := by
  obtain ⟨Y, hY, rfl⟩ := hv
  have e : Gather.gY m 0 Y (ValueIdx.ix2 (⟨4096 + t.val, by omega⟩ : Fin 8192) c)
      = Y (ix2 (⟨(m (Gather.p1Loc 0) (ix1 t) : BitVec 32).toNat, (hp 0 _).2⟩ : Fin 32768) c) := by
    unfold Gather.gY Gather.gVal
    refine (dif_neg (show ¬ 4096 + t.val < 4096 by omega)).trans ?_
    have e : (⟨4096 + t.val - 4096, by omega⟩ : Fin 4096) = t := Fin.ext (Nat.add_sub_cancel_left _ _)
    refine congrArg Y (congrArg (ix2 · c) ?_)
    exact (congrArg (fun i => Gather.rowOf (m (Gather.p1Loc 0) (ix1 i))) e).trans (Fin.ext (Gather.rowOf_val (hp 0 (ix1 t)).2))
  rw [e]
  exact Gather.net_row R Y hY _ hc

/-- Whatever rows the gather may have left, their weighted sum is the reference's formula. -/
theorem oVal_eq {h : Gather.TabOK m} (R : Gather.TabRel m) (hp : Gather.PosOK m)
    (hc : ∀ t : Fin 4096,
      (∃ k : Fin 40, (m (Gather.xbLoc 0) (ix1 k) : BitVec 32).toNat * 256 ≤ (m (Gather.p0Loc 0) (ix1 t) : BitVec 32).toNat
        ∧ (m (Gather.p0Loc 0) (ix1 t) : BitVec 32).toNat < (m (Gather.xbLoc 0) (ix1 k) : BitVec 32).toNat * 256 + 256)
      ∧ ∃ k : Fin 40, (m (Gather.xbLoc 0) (ix1 k) : BitVec 32).toNat * 256 ≤ (m (Gather.p1Loc 0) (ix1 t) : BitVec 32).toNat
        ∧ (m (Gather.p1Loc 0) (ix1 t) : BitVec 32).toNat < (m (Gather.xbLoc 0) (ix1 k) : BitVec 32).toNat * 256 + 256)
    (g : Buf (Elt Ideal) (Gather.gLoc 0)) (hg : ∀ i, Gather.Good m (Gather.RY m h) 0 i (g i)) :
    Gather.oVal g (m (Gather.wLoc 0)) = out m 0 := by
  funext x
  obtain ⟨t, c, rfl⟩ : ∃ (t : Fin 4096) (c : Fin 1024), x = ix2 t c := ⟨x 0, x 1, eq_ix2 x⟩
  have r0 := row0 R hp t c (hc t).1 _ (hg _)
  have r1 := row1 R hp t c (hc t).2 _ (hg _)
  refine Eq.trans ?_ (Ref.refOut_apply _ _ _ _ (fun j => (hp 0 j).1) (fun j => (hp 0 j).2) t c).symm
  rw [Ref.net_apply, Ref.net_apply]
  exact congrArg₂ (· + ·) (congrArg (· * _) r0) (congrArg (· * _) r1)

end Result

/-- From equal arguments with the tables in order, the kernel's result and the reference's are equal, element by element. -/
theorem algebraic : Cert.algebraic_KernelIdeal_ReferenceIdeal_pre_tables_ok := fun m ρ m' ρ' hpre hargs => by
  have hr := fun d => Pre.tables _ _ _ _ _ _ _ _ _ _ _ (hpre d)
  have hp : Gather.PosOK m := fun d j => ⟨(hr d).1.1 j, (hr d).1.2.1 j⟩
  have ht : Gather.TabOK m := fun d j => ⟨(hr d).1.2.2.1 j, (hr d).1.2.2.2 j⟩
  obtain ⟨-, own, first, keep, c0, c1⟩ := hr 0
  have R : Gather.TabRel m := ⟨fun k => own (ix1 k), first, keep⟩
  refine ⟨fun c => out m c,
    (θ_run Cert.KernelIdeal.defs _ _).mono (fun _ h c => ?_) (Gather.run_main (F := Ideal) m ht ρ hp),
    (θ_run Cert.ReferenceIdeal.defs _ _).mono (fun _ h c => ⟨(h c).1.trans ?_, (h c).2⟩)
      (Cert.ReferenceIdeal.Value.run (F := Ideal) m' ρ')⟩
  · obtain rfl : c = 0 := Subsingleton.elim _ _
    obtain ⟨⟨g, hg, ho⟩, hk⟩ := h.1 0
    exact ⟨ho.trans (oVal_eq R hp (fun t => ⟨c0 t, c1 t⟩) g hg), hk⟩
  · obtain ⟨a0, -, -, -, a4, a5, a6, a7, a8, a9, a10⟩ := hargs c
    refine (Ref.res_eq m' c).trans ?_
    rw [a0, a4, a5, a6, a7, a8, a9, a10]
    rfl

/-- The routing call as printed, over bit patterns. -/
theorem frame_router : Cert.quiescent_Router := fun m ρ _ => Cert.Router.Gen.frame m ρ

/-- The routing call over exact values. -/
theorem frame_routerIdeal : Cert.quiescent_RouterIdeal := fun m ρ _ => Cert.RouterIdeal.Gen.frame m ρ

/-- The reference loss ends with its arguments as they were; it has no semaphores. -/
theorem frame_loss : Cert.quiescent_LossIdeal := fun m ρ _ =>
  (θ_run Cert.LossIdeal.defs _ _).mono
    (fun r h => ⟨fun c => (h c).2, sem_eq_zero_of_no_sems (by decide) r.2⟩)
    (Cert.LossIdeal.Value.run (F := Ideal) m ρ)

/-- From equal arguments, the routing call's loss and the reference's are equal. -/
theorem algebraic_loss : Cert.algebraic_RouterIdeal_LossIdeal := fun m ρ m' ρ' _ hargs => by
  refine ⟨fun c => Cert.RouterIdeal.Value.G9 (F := Ideal) m c,
    (θ_run Cert.RouterIdeal.defs _ _).mono (fun _ h c => (h c).2.2.2.2.2.2)
      (Cert.RouterIdeal.Value.run (F := Ideal) m ρ),
    (θ_run Cert.LossIdeal.defs _ _).mono (fun _ h c => ⟨(h c).1.trans ?_, (h c).2⟩)
      (Cert.LossIdeal.Value.run (F := Ideal) m' ρ')⟩
  obtain ⟨hx, hw, hb⟩ := hargs c
  funext i
  refine (Loss.refLoss_eq _ _ _ i).trans ?_
  rw [hx, hw, hb]
  exact (Loss.loss_eq m c i).symm

/-- Every claim of the certificate. -/
theorem claim : Cert.Claim :=
  ⟨Cert.Kernel.Gen.facts, Cert.KernelIdeal.Gen.facts, Cert.ReferenceIdeal.Gen.facts, Cert.Router.Gen.facts, Cert.RouterIdeal.Gen.facts,
    Cert.LossIdeal.Gen.facts, Cert.Pre_rows_in_range.Gen.facts, Pre.tables_facts,
    frame_kernel, frame_kernelIdeal, frame_kernelIdeal_tables, frame_reference, frame_reference_tables, frame_router, frame_routerIdeal,
    frame_loss, preserves, algebraic, trivial, algebraic_loss⟩

end Cert.Proof

end
